-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_and_third_nearest_apart [hPre_finite_and_third_nearest_apart : Cert.Pre_finite_and_third_nearest_apart.Facts] (m : (ℓ : Loc Cert.KernelIdeal.nD Cert.KernelIdeal.τ Cert.KernelIdeal.sig) → Buf (Elt Ideal) ℓ) : Prop :=
  ∀ c : Dev Cert.KernelIdeal.nD,
    (Cert.Pre_finite_and_third_nearest_apart.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_and_third_nearest_apart [hPre_finite_and_third_nearest_apart : Cert.Pre_finite_and_third_nearest_apart.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_and_third_nearest_apart.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ r.2.sem = fun _ => 0)

def quiescent_KernelIdeal_pre_finite_and_third_nearest_apart [hKernelIdeal : Cert.KernelIdeal.Facts] [hPre_finite_and_third_nearest_apart : Cert.Pre_finite_and_third_nearest_apart.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_and_third_nearest_apart m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))
      ∧ r.2.sem = fun _ => 0)

def quiescent_ReferenceIdeal_pre_finite_and_third_nearest_apart [hReferenceIdeal : Cert.ReferenceIdeal.Facts] [hPre_finite_and_third_nearest_apart : Cert.Pre_finite_and_third_nearest_apart.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_and_third_nearest_apart m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))
      ∧ r.2.sem = fun _ => 0)

def preserves_Kernel_KernelIdeal : Prop :=
  IdealRules.named_const.Statement Cert.KernelIdeal.κ "mask" .f32 0x7149F2CA#32 ⊤

def algebraic_KernelIdeal_ReferenceIdeal_pre_finite_and_third_nearest_apart [hKernelIdeal : Cert.KernelIdeal.Facts] [hReferenceIdeal : Cert.ReferenceIdeal.Facts] [hPre_finite_and_third_nearest_apart : Cert.Pre_finite_and_third_nearest_apart.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_and_third_nearest_apart m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v11)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v11) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v112) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts) (hPre_finite_and_third_nearest_apart : Cert.Pre_finite_and_third_nearest_apart.Facts),
    quiescent_Kernel (hKernel := hKernel)
    ∧ quiescent_KernelIdeal (hKernelIdeal := hKernelIdeal)
    ∧ quiescent_KernelIdeal_pre_finite_and_third_nearest_apart (hKernelIdeal := hKernelIdeal) (hPre_finite_and_third_nearest_apart := hPre_finite_and_third_nearest_apart)
    ∧ quiescent_ReferenceIdeal (hReferenceIdeal := hReferenceIdeal)
    ∧ quiescent_ReferenceIdeal_pre_finite_and_third_nearest_apart (hReferenceIdeal := hReferenceIdeal) (hPre_finite_and_third_nearest_apart := hPre_finite_and_third_nearest_apart)
    ∧ preserves_Kernel_KernelIdeal
    ∧ algebraic_KernelIdeal_ReferenceIdeal_pre_finite_and_third_nearest_apart (hKernelIdeal := hKernelIdeal) (hReferenceIdeal := hReferenceIdeal) (hPre_finite_and_third_nearest_apart := hPre_finite_and_third_nearest_apart)
-- ==== Pre_finite_and_third_nearest_apart.lean ====
abbrev S8x128x4096 : Shape := ⟨3, ![8, 128, 4096]⟩
abbrev S8x3x4096 : Shape := ⟨3, ![8, 3, 4096]⟩
abbrev S8x256x1024 : Shape := ⟨3, ![8, 256, 1024]⟩
abbrev S8x3x1024 : Shape := ⟨3, ![8, 3, 1024]⟩
abbrev S256x384 : Shape := ⟨2, ![256, 384]⟩
abbrev S256 : Shape := ⟨1, ![256]⟩
abbrev S128x256 : Shape := ⟨2, ![128, 256]⟩
abbrev S128 : Shape := ⟨1, ![128]⟩
abbrev S_ : Shape := ⟨0, ![]⟩
abbrev S8x4096x3 : Shape := ⟨3, ![8, 4096, 3]⟩
abbrev S8x1024x3 : Shape := ⟨3, ![8, 1024, 3]⟩
abbrev S8x4096x1024 : Shape := ⟨3, ![8, 4096, 1024]⟩
abbrev S8x4096 : Shape := ⟨2, ![8, 4096]⟩
abbrev S8x4096x1 : Shape := ⟨3, ![8, 4096, 1]⟩
abbrev S8x1024 : Shape := ⟨2, ![8, 1024]⟩
abbrev S8x1x1024 : Shape := ⟨3, ![8, 1, 1024]⟩

class Facts : Prop where
  bcast_S_S8x128x4096 : S_.BroadcastsInDim S8x128x4096 (![] : Fin 0 → Fin S8x128x4096.rank)
  reducesTo_S8x128x4096_S_d0_1_2 : S8x128x4096.ReducesTo [0, 1, 2] S_
  h_S_ : 0 < S_.numel
  bcast_S_S8x3x4096 : S_.BroadcastsInDim S8x3x4096 (![] : Fin 0 → Fin S8x3x4096.rank)
  reducesTo_S8x3x4096_S_d0_1_2 : S8x3x4096.ReducesTo [0, 1, 2] S_
  bcast_S_S8x256x1024 : S_.BroadcastsInDim S8x256x1024 (![] : Fin 0 → Fin S8x256x1024.rank)
  reducesTo_S8x256x1024_S_d0_1_2 : S8x256x1024.ReducesTo [0, 1, 2] S_
  bcast_S_S8x3x1024 : S_.BroadcastsInDim S8x3x1024 (![] : Fin 0 → Fin S8x3x1024.rank)
  reducesTo_S8x3x1024_S_d0_1_2 : S8x3x1024.ReducesTo [0, 1, 2] S_
  bcast_S_S256x384 : S_.BroadcastsInDim S256x384 (![] : Fin 0 → Fin S256x384.rank)
  reducesTo_S256x384_S_d0_1 : S256x384.ReducesTo [0, 1] S_
  bcast_S_S256 : S_.BroadcastsInDim S256 (![] : Fin 0 → Fin S256.rank)
  reducesTo_S256_S_d0 : S256.ReducesTo [0] S_
  bcast_S_S128x256 : S_.BroadcastsInDim S128x256 (![] : Fin 0 → Fin S128x256.rank)
  reducesTo_S128x256_S_d0_1 : S128x256.ReducesTo [0, 1] S_
  bcast_S_S128 : S_.BroadcastsInDim S128 (![] : Fin 0 → Fin S128.rank)
  reducesTo_S128_S_d0 : S128.ReducesTo [0] S_
  transposes_S8x3x4096_S8x4096x3_0_2_1 : S8x3x4096.Transposes [0, 2, 1] S8x4096x3
  transposes_S8x3x1024_S8x1024x3_0_2_1 : S8x3x1024.Transposes [0, 2, 1] S8x1024x3
  transposes_S8x1024x3_S8x3x1024_0_2_1 : S8x1024x3.Transposes [0, 2, 1] S8x3x1024
  bcast_S_S8x4096x1024 : S_.BroadcastsInDim S8x4096x1024 (![] : Fin 0 → Fin S8x4096x1024.rank)
  reducesTo_S8x4096x3_S8x4096_d2 : S8x4096x3.ReducesTo [2] S8x4096
  bcast_S8x4096_S8x4096x1_0_1 : S8x4096.BroadcastsInDim S8x4096x1 (![0, 1] : Fin 2 → Fin S8x4096x1.rank)
  bcast_S8x4096x1_S8x4096x1024_0_1_2 : S8x4096x1.BroadcastsInDim S8x4096x1024 (![0, 1, 2] : Fin 3 → Fin S8x4096x1024.rank)
  reducesTo_S8x1024x3_S8x1024_d2 : S8x1024x3.ReducesTo [2] S8x1024
  bcast_S8x1024_S8x1x1024_0_2 : S8x1024.BroadcastsInDim S8x1x1024 (![0, 2] : Fin 2 → Fin S8x1x1024.rank)
  bcast_S8x1x1024_S8x4096x1024_0_1_2 : S8x1x1024.BroadcastsInDim S8x4096x1024 (![0, 1, 2] : Fin 3 → Fin S8x4096x1024.rank)
  slices_S8x4096x1024_S8x4096x1_0_0_2 : S8x4096x1024.Slices ![0, 0, 2] S8x4096x1
  shapeCasts_S8x4096x1_S8x4096 : S8x4096x1.ShapeCasts S8x4096
  slices_S8x4096x1024_S8x4096x1_0_0_3 : S8x4096x1024.Slices ![0, 0, 3] S8x4096x1
  reducesTo_S8x4096_S_d0_1 : S8x4096.ReducesTo [0, 1] S_
  dot_S8x4096x3_S8x3x1024_S8x4096x1024_2_1_1_2_0_0_wf : DotDims.WF S8x4096x3 S8x3x1024 S8x4096x1024 [2] [1] [1] [2] [0] [0]

variable [Facts]

variable {F : FTy → Type} [FloatOps F]
def dot_S8x4096x3_S8x3x1024_S8x4096x1024_2_1_1_2_0_0 : DotDims S8x4096x3 S8x3x1024 S8x4096x1024 where
  lhsContracting := [2]
  rhsContracting := [1]
  lhsNonContracting := [1]
  rhsNonContracting := [2]
  lhsBatch := [0]
  rhsBatch := [0]
  wf := dot_S8x4096x3_S8x3x1024_S8x4096x1024_2_1_1_2_0_0_wf
def comparator_f32_i32_d2 : F .f32 × BitVec 32 → F .f32 × BitVec 32 → BitVec 1 :=
  fun l r =>
    let cst_27 := FloatOps.ofBits .f32 0x00000000#32
    let v85 := FloatOps.cmpf .oeq l.1 cst_27
    let cst_28 := FloatOps.ofBits .f32 0x00000000#32
    let v86 := Scalar.select v85 cst_28 l.1
    let v87 := FloatOps.cmpf .une l.1 l.1
    let cst_29 := FloatOps.ofBits .f32 0x7FC00000#32
    let v88 := Scalar.select v87 cst_29 v86
    let cst_30 := FloatOps.ofBits .f32 0x00000000#32
    let v89 := FloatOps.cmpf .oeq r.1 cst_30
    let cst_31 := FloatOps.ofBits .f32 0x00000000#32
    let v90 := Scalar.select v89 cst_31 r.1
    let v91 := FloatOps.cmpf .une r.1 r.1
    let cst_32 := FloatOps.ofBits .f32 0x7FC00000#32
    let v92 := Scalar.select v91 cst_32 v90
    let v93 := FloatOps.cmpfTotal .lt v88 v92
    v93

def fn_part4 {F : FTy → Type} [FloatOps F] (main_v59 : IVec S_ 1) (main_v61 : FVec F S8x1024x3 .f32) (main_v65 : FVec F S8x4096x1024 .f32) (main_v68 : FVec F S8x4096x1 .f32) : IVec S_ 1 :=
  let main_v69 : FVec F S8x4096x1024 .f32 := broadcastInDim S8x4096x1024 ![0, 1, 2] bcast_S8x4096x1_S8x4096x1024_0_1_2 main_v68
  let main_v70 : FVec F S8x4096x1024 .f32 := addf main_v65 main_v69
  let main_v71 : FVec F S8x1024x3 .f32 := mulf main_v61 main_v61
  let main_cst_25 : FVec F S_ .f32 := constant S_ .f32 0x00000000#32
  let main_v72 : FVec F S8x1024 .f32 := (fun x v => Host.reduceAdd x v reducesTo_S8x1024x3_S8x1024_d2 h_S_) main_v71 main_cst_25
  let main_v73 : FVec F S8x1x1024 .f32 := broadcastInDim S8x1x1024 ![0, 2] bcast_S8x1024_S8x1x1024_0_2 main_v72
  let main_v74 : FVec F S8x4096x1024 .f32 := broadcastInDim S8x4096x1024 ![0, 1, 2] bcast_S8x1x1024_S8x4096x1024_0_1_2 main_v73
  let main_v75 : FVec F S8x4096x1024 .f32 := addf main_v70 main_v74
  let main_v76 : IVec S8x4096x1024 32 := iotaInDim S8x4096x1024 32 2
  let main_v77_0 : FVec F S8x4096x1024 .f32 := (fun x y => (Host.sort2 S8x4096x1024 2 comparator_f32_i32_d2 x y).1) main_v75 main_v76
  let main_v77_1 : IVec S8x4096x1024 32 := (fun x y => (Host.sort2 S8x4096x1024 2 comparator_f32_i32_d2 x y).2) main_v75 main_v76
  let main_v78 : FVec F S8x4096x1 .f32 := (extractStridedSlice S8x4096x1 ![0, 0, 2] · slices_S8x4096x1024_S8x4096x1_0_0_2) main_v77_0
  let main_v79 : FVec F S8x4096 .f32 := shapeCast S8x4096 main_v78 shapeCasts_S8x4096x1_S8x4096
  let main_v80 : FVec F S8x4096x1 .f32 := (extractStridedSlice S8x4096x1 ![0, 0, 3] · slices_S8x4096x1024_S8x4096x1_0_0_3) main_v77_0
  let main_v81 : FVec F S8x4096 .f32 := shapeCast S8x4096 main_v80 shapeCasts_S8x4096x1_S8x4096
  let main_v82 : IVec S8x4096 1 := cmpf .olt main_v79 main_v81
  let main_c_26 : IVec S_ 1 := constantI S_ 1 1#1
  let main_v83 : IVec S_ 1 := (fun x v => Host.reduce IntOp.andi x v reducesTo_S8x4096_S_d0_1 h_S_) main_v82 main_c_26
  let main_v84 : IVec S_ 1 := andi main_v59 main_v83
  main_v84

def fn_part3 {F : FTy → Type} [FloatOps F] (main_arg1 : FVec F S8x3x4096 .f32) (main_arg3 : FVec F S8x3x1024 .f32) (main_arg11 : FVec F S128 .f32) (main_v49 : IVec S_ 1) (main_v50 : FVec F S128 .f32) : IVec S_ 1 :=
  let main_cst_19 : FVec F S_ .f32 := constant S_ .f32 0x7F800000#32
  let main_v51 : FVec F S128 .f32 := broadcastInDim S128 ![] bcast_S_S128 main_cst_19
  let main_v52 : IVec S128 1 := cmpf .olt main_v50 main_v51
  let main_c_20 : IVec S_ 1 := constantI S_ 1 1#1
  let main_v53 : IVec S_ 1 := (fun x v => Host.reduce IntOp.andi x v reducesTo_S128_S_d0 h_S_) main_v52 main_c_20
  let main_v54 : IVec S_ 1 := andi main_v49 main_v53
  let main_v55 : FVec F S128 .f32 := Host.absf main_arg11
  let main_cst_21 : FVec F S_ .f32 := constant S_ .f32 0x7F800000#32
  let main_v56 : FVec F S128 .f32 := broadcastInDim S128 ![] bcast_S_S128 main_cst_21
  let main_v57 : IVec S128 1 := cmpf .olt main_v55 main_v56
  let main_c_22 : IVec S_ 1 := constantI S_ 1 1#1
  let main_v58 : IVec S_ 1 := (fun x v => Host.reduce IntOp.andi x v reducesTo_S128_S_d0 h_S_) main_v57 main_c_22
  let main_v59 : IVec S_ 1 := andi main_v54 main_v58
  let main_v60 : FVec F S8x4096x3 .f32 := (transpose S8x4096x3 [0, 2, 1] · transposes_S8x3x4096_S8x4096x3_0_2_1) main_arg1
  let main_v61 : FVec F S8x1024x3 .f32 := (transpose S8x1024x3 [0, 2, 1] · transposes_S8x3x1024_S8x1024x3_0_2_1) main_arg3
  let main_v62 : FVec F S8x3x1024 .f32 := (transpose S8x3x1024 [0, 2, 1] · transposes_S8x1024x3_S8x3x1024_0_2_1) main_v61
  let main_v63 : FVec F S8x4096x1024 .f32 := (fun l r => Host.dotGeneral dot_S8x4096x3_S8x3x1024_S8x4096x1024_2_1_1_2_0_0 none l r) main_v60 main_v62
  let main_cst_23 : FVec F S_ .f32 := constant S_ .f32 0xC0000000#32
  let main_v64 : FVec F S8x4096x1024 .f32 := broadcastInDim S8x4096x1024 ![] bcast_S_S8x4096x1024 main_cst_23
  let main_v65 : FVec F S8x4096x1024 .f32 := mulf main_v64 main_v63
  let main_v66 : FVec F S8x4096x3 .f32 := mulf main_v60 main_v60
  let main_cst_24 : FVec F S_ .f32 := constant S_ .f32 0x00000000#32
  let main_v67 : FVec F S8x4096 .f32 := (fun x v => Host.reduceAdd x v reducesTo_S8x4096x3_S8x4096_d2 h_S_) main_v66 main_cst_24
  let main_v68 : FVec F S8x4096x1 .f32 := broadcastInDim S8x4096x1 ![0, 1] bcast_S8x4096_S8x4096x1_0_1 main_v67
  fn_part4 (F := F) main_v59 main_v61 main_v65 main_v68

def fn_part2 {F : FTy → Type} [FloatOps F] (main_arg1 : FVec F S8x3x4096 .f32) (main_arg3 : FVec F S8x3x1024 .f32) (main_arg7 : FVec F S256 .f32) (main_arg8 : FVec F S128x256 .f32) (main_arg9 : FVec F S128 .f32) (main_arg10 : FVec F S128 .f32) (main_arg11 : FVec F S128 .f32) (main_v29 : IVec S_ 1) (main_v32 : IVec S256 1) (main_c_12 : IVec S_ 1) : IVec S_ 1 :=
  let main_v33 : IVec S_ 1 := (fun x v => Host.reduce IntOp.andi x v reducesTo_S256_S_d0 h_S_) main_v32 main_c_12
  let main_v34 : IVec S_ 1 := andi main_v29 main_v33
  let main_v35 : FVec F S256 .f32 := Host.absf main_arg7
  let main_cst_13 : FVec F S_ .f32 := constant S_ .f32 0x7F800000#32
  let main_v36 : FVec F S256 .f32 := broadcastInDim S256 ![] bcast_S_S256 main_cst_13
  let main_v37 : IVec S256 1 := cmpf .olt main_v35 main_v36
  let main_c_14 : IVec S_ 1 := constantI S_ 1 1#1
  let main_v38 : IVec S_ 1 := (fun x v => Host.reduce IntOp.andi x v reducesTo_S256_S_d0 h_S_) main_v37 main_c_14
  let main_v39 : IVec S_ 1 := andi main_v34 main_v38
  let main_v40 : FVec F S128x256 .f32 := Host.absf main_arg8
  let main_cst_15 : FVec F S_ .f32 := constant S_ .f32 0x7F800000#32
  let main_v41 : FVec F S128x256 .f32 := broadcastInDim S128x256 ![] bcast_S_S128x256 main_cst_15
  let main_v42 : IVec S128x256 1 := cmpf .olt main_v40 main_v41
  let main_c_16 : IVec S_ 1 := constantI S_ 1 1#1
  let main_v43 : IVec S_ 1 := (fun x v => Host.reduce IntOp.andi x v reducesTo_S128x256_S_d0_1 h_S_) main_v42 main_c_16
  let main_v44 : IVec S_ 1 := andi main_v39 main_v43
  let main_v45 : FVec F S128 .f32 := Host.absf main_arg9
  let main_cst_17 : FVec F S_ .f32 := constant S_ .f32 0x7F800000#32
  let main_v46 : FVec F S128 .f32 := broadcastInDim S128 ![] bcast_S_S128 main_cst_17
  let main_v47 : IVec S128 1 := cmpf .olt main_v45 main_v46
  let main_c_18 : IVec S_ 1 := constantI S_ 1 1#1
  let main_v48 : IVec S_ 1 := (fun x v => Host.reduce IntOp.andi x v reducesTo_S128_S_d0 h_S_) main_v47 main_c_18
  let main_v49 : IVec S_ 1 := andi main_v44 main_v48
  let main_v50 : FVec F S128 .f32 := Host.absf main_arg10
  fn_part3 (F := F) main_arg1 main_arg3 main_arg11 main_v49 main_v50

def fn_part1 {F : FTy → Type} [FloatOps F] (main_arg1 : FVec F S8x3x4096 .f32) (main_arg3 : FVec F S8x3x1024 .f32) (main_arg4 : FVec F S256x384 .f32) (main_arg5 : FVec F S256 .f32) (main_arg6 : FVec F S256 .f32) (main_arg7 : FVec F S256 .f32) (main_arg8 : FVec F S128x256 .f32) (main_arg9 : FVec F S128 .f32) (main_arg10 : FVec F S128 .f32) (main_arg11 : FVec F S128 .f32) (main_v14 : IVec S_ 1) (main_v15 : FVec F S8x3x1024 .f32) (main_cst_5 : FVec F S_ .f32) : IVec S_ 1 :=
  let main_v16 : FVec F S8x3x1024 .f32 := broadcastInDim S8x3x1024 ![] bcast_S_S8x3x1024 main_cst_5
  let main_v17 : IVec S8x3x1024 1 := cmpf .olt main_v15 main_v16
  let main_c_6 : IVec S_ 1 := constantI S_ 1 1#1
  let main_v18 : IVec S_ 1 := (fun x v => Host.reduce IntOp.andi x v reducesTo_S8x3x1024_S_d0_1_2 h_S_) main_v17 main_c_6
  let main_v19 : IVec S_ 1 := andi main_v14 main_v18
  let main_v20 : FVec F S256x384 .f32 := Host.absf main_arg4
  let main_cst_7 : FVec F S_ .f32 := constant S_ .f32 0x7F800000#32
  let main_v21 : FVec F S256x384 .f32 := broadcastInDim S256x384 ![] bcast_S_S256x384 main_cst_7
  let main_v22 : IVec S256x384 1 := cmpf .olt main_v20 main_v21
  let main_c_8 : IVec S_ 1 := constantI S_ 1 1#1
  let main_v23 : IVec S_ 1 := (fun x v => Host.reduce IntOp.andi x v reducesTo_S256x384_S_d0_1 h_S_) main_v22 main_c_8
  let main_v24 : IVec S_ 1 := andi main_v19 main_v23
  let main_v25 : FVec F S256 .f32 := Host.absf main_arg5
  let main_cst_9 : FVec F S_ .f32 := constant S_ .f32 0x7F800000#32
  let main_v26 : FVec F S256 .f32 := broadcastInDim S256 ![] bcast_S_S256 main_cst_9
  let main_v27 : IVec S256 1 := cmpf .olt main_v25 main_v26
  let main_c_10 : IVec S_ 1 := constantI S_ 1 1#1
  let main_v28 : IVec S_ 1 := (fun x v => Host.reduce IntOp.andi x v reducesTo_S256_S_d0 h_S_) main_v27 main_c_10
  let main_v29 : IVec S_ 1 := andi main_v24 main_v28
  let main_v30 : FVec F S256 .f32 := Host.absf main_arg6
  let main_cst_11 : FVec F S_ .f32 := constant S_ .f32 0x7F800000#32
  let main_v31 : FVec F S256 .f32 := broadcastInDim S256 ![] bcast_S_S256 main_cst_11
  let main_v32 : IVec S256 1 := cmpf .olt main_v30 main_v31
  let main_c_12 : IVec S_ 1 := constantI S_ 1 1#1
  fn_part2 (F := F) main_arg1 main_arg3 main_arg7 main_arg8 main_arg9 main_arg10 main_arg11 main_v29 main_v32 main_c_12

def fn {F : FTy → Type} [FloatOps F] (main_arg0 : FVec F S8x128x4096 .f32) (main_arg1 : FVec F S8x3x4096 .f32) (main_arg2 : FVec F S8x256x1024 .f32) (main_arg3 : FVec F S8x3x1024 .f32) (main_arg4 : FVec F S256x384 .f32) (main_arg5 : FVec F S256 .f32) (main_arg6 : FVec F S256 .f32) (main_arg7 : FVec F S256 .f32) (main_arg8 : FVec F S128x256 .f32) (main_arg9 : FVec F S128 .f32) (main_arg10 : FVec F S128 .f32) (main_arg11 : FVec F S128 .f32) : IVec S_ 1 :=
  let main_v0 : FVec F S8x128x4096 .f32 := Host.absf main_arg0
  let main_cst : FVec F S_ .f32 := constant S_ .f32 0x7F800000#32
  let main_v1 : FVec F S8x128x4096 .f32 := broadcastInDim S8x128x4096 ![] bcast_S_S8x128x4096 main_cst
  let main_v2 : IVec S8x128x4096 1 := cmpf .olt main_v0 main_v1
  let main_c : IVec S_ 1 := constantI S_ 1 1#1
  let main_v3 : IVec S_ 1 := (fun x v => Host.reduce IntOp.andi x v reducesTo_S8x128x4096_S_d0_1_2 h_S_) main_v2 main_c
  let main_c_0 : IVec S_ 1 := constantI S_ 1 1#1
  let main_v4 : IVec S_ 1 := andi main_c_0 main_v3
  let main_v5 : FVec F S8x3x4096 .f32 := Host.absf main_arg1
  let main_cst_1 : FVec F S_ .f32 := constant S_ .f32 0x7F800000#32
  let main_v6 : FVec F S8x3x4096 .f32 := broadcastInDim S8x3x4096 ![] bcast_S_S8x3x4096 main_cst_1
  let main_v7 : IVec S8x3x4096 1 := cmpf .olt main_v5 main_v6
  let main_c_2 : IVec S_ 1 := constantI S_ 1 1#1
  let main_v8 : IVec S_ 1 := (fun x v => Host.reduce IntOp.andi x v reducesTo_S8x3x4096_S_d0_1_2 h_S_) main_v7 main_c_2
  let main_v9 : IVec S_ 1 := andi main_v4 main_v8
  let main_v10 : FVec F S8x256x1024 .f32 := Host.absf main_arg2
  let main_cst_3 : FVec F S_ .f32 := constant S_ .f32 0x7F800000#32
  let main_v11 : FVec F S8x256x1024 .f32 := broadcastInDim S8x256x1024 ![] bcast_S_S8x256x1024 main_cst_3
  let main_v12 : IVec S8x256x1024 1 := cmpf .olt main_v10 main_v11
  let main_c_4 : IVec S_ 1 := constantI S_ 1 1#1
  let main_v13 : IVec S_ 1 := (fun x v => Host.reduce IntOp.andi x v reducesTo_S8x256x1024_S_d0_1_2 h_S_) main_v12 main_c_4
  let main_v14 : IVec S_ 1 := andi main_v9 main_v13
  let main_v15 : FVec F S8x3x1024 .f32 := Host.absf main_arg3
  let main_cst_5 : FVec F S_ .f32 := constant S_ .f32 0x7F800000#32
  fn_part1 (F := F) main_arg1 main_arg3 main_arg4 main_arg5 main_arg6 main_arg7 main_arg8 main_arg9 main_arg10 main_arg11 main_v14 main_v15 main_cst_5
-- ==== Kernel.lean ====
abbrev S8x128x4096 : Shape := ⟨3, ![8, 128, 4096]⟩
abbrev S8x3x4096 : Shape := ⟨3, ![8, 3, 4096]⟩
abbrev S8x256x1024 : Shape := ⟨3, ![8, 256, 1024]⟩
abbrev S8x3x1024 : Shape := ⟨3, ![8, 3, 1024]⟩
abbrev S256x384 : Shape := ⟨2, ![256, 384]⟩
abbrev S256 : Shape := ⟨1, ![256]⟩
abbrev S128x256 : Shape := ⟨2, ![128, 256]⟩
abbrev S128 : Shape := ⟨1, ![128]⟩
abbrev S8x4096x3 : Shape := ⟨3, ![8, 4096, 3]⟩
abbrev S256x128 : Shape := ⟨2, ![256, 128]⟩
abbrev S256x256 : Shape := ⟨2, ![256, 256]⟩
abbrev S1x256 : Shape := ⟨2, ![1, 256]⟩
abbrev S1x128 : Shape := ⟨2, ![1, 128]⟩
abbrev S8x4096x256 : Shape := ⟨3, ![8, 4096, 256]⟩
abbrev S8x8x2x256 : Shape := ⟨4, ![8, 8, 2, 256]⟩
abbrev S1x512x3 : Shape := ⟨3, ![1, 512, 3]⟩
abbrev S1x3x1024 : Shape := ⟨3, ![1, 3, 1024]⟩
abbrev S1x128x512 : Shape := ⟨3, ![1, 128, 512]⟩
abbrev S1x256x1024 : Shape := ⟨3, ![1, 256, 1024]⟩
abbrev S1x512x256 : Shape := ⟨3, ![1, 512, 256]⟩
abbrev S1x1x2x256 : Shape := ⟨4, ![1, 1, 2, 256]⟩
abbrev S512x3 : Shape := ⟨2, ![512, 3]⟩
abbrev S3x1024 : Shape := ⟨2, ![3, 1024]⟩
abbrev S512x1024 : Shape := ⟨2, ![512, 1024]⟩
abbrev S512x1 : Shape := ⟨2, ![512, 1]⟩
abbrev S1x1024 : Shape := ⟨2, ![1, 1024]⟩
abbrev S512 : Shape := ⟨1, ![512]⟩
abbrev S256x1024 : Shape := ⟨2, ![256, 1024]⟩
abbrev S512x256 : Shape := ⟨2, ![512, 256]⟩
abbrev S128x512 : Shape := ⟨2, ![128, 512]⟩
abbrev S2x256 : Shape := ⟨2, ![2, 256]⟩
abbrev S1x2048x256 : Shape := ⟨3, ![1, 2048, 256]⟩
abbrev S1x128x2048 : Shape := ⟨3, ![1, 128, 2048]⟩
abbrev S16x2048x128 : Shape := ⟨3, ![16, 2048, 128]⟩
abbrev S2x128 : Shape := ⟨2, ![2, 128]⟩
abbrev S2048x256 : Shape := ⟨2, ![2048, 256]⟩
abbrev S2048x128 : Shape := ⟨2, ![2048, 128]⟩
abbrev S1x2048x128 : Shape := ⟨3, ![1, 2048, 128]⟩
abbrev S128x2048 : Shape := ⟨2, ![128, 2048]⟩

abbrev nBuf : Space → Nat
  | .hbm => 25
  | .vmem => 26
  | .smem => 0
  | _ => 0

abbrev bufTy : (tb : Table) → Fin (tcTables nBuf tb) → BufTy
  | .hbm, ⟨0, _⟩ => ⟨S8x128x4096, .f32⟩
  | .hbm, ⟨1, _⟩ => ⟨S8x3x4096, .f32⟩
  | .hbm, ⟨2, _⟩ => ⟨S8x256x1024, .f32⟩
  | .hbm, ⟨3, _⟩ => ⟨S8x3x1024, .f32⟩
  | .hbm, ⟨4, _⟩ => ⟨S256x384, .f32⟩
  | .hbm, ⟨5, _⟩ => ⟨S256, .f32⟩
  | .hbm, ⟨6, _⟩ => ⟨S256, .f32⟩
  | .hbm, ⟨7, _⟩ => ⟨S256, .f32⟩
  | .hbm, ⟨8, _⟩ => ⟨S128x256, .f32⟩
  | .hbm, ⟨9, _⟩ => ⟨S128, .f32⟩
  | .hbm, ⟨10, _⟩ => ⟨S128, .f32⟩
  | .hbm, ⟨11, _⟩ => ⟨S128, .f32⟩
  | .hbm, ⟨12, _⟩ => ⟨S8x4096x3, .f32⟩
  | .hbm, ⟨13, _⟩ => ⟨S256x128, .f32⟩
  | .hbm, ⟨14, _⟩ => ⟨S128x256, .f32⟩
  | .hbm, ⟨15, _⟩ => ⟨S256x256, .f32⟩
  | .hbm, ⟨16, _⟩ => ⟨S256x256, .f32⟩
  | .hbm, ⟨17, _⟩ => ⟨S256x128, .f32⟩
  | .hbm, ⟨18, _⟩ => ⟨S1x256, .f32⟩
  | .hbm, ⟨19, _⟩ => ⟨S1x256, .f32⟩
  | .hbm, ⟨20, _⟩ => ⟨S1x128, .f32⟩
  | .hbm, ⟨21, _⟩ => ⟨S1x128, .f32⟩
  | .hbm, ⟨22, _⟩ => ⟨S8x4096x256, .bf16⟩
  | .hbm, ⟨23, _⟩ => ⟨S8x8x2x256, .f32⟩
  | .hbm, ⟨24, _⟩ => ⟨S8x128x4096, .f32⟩
  | .local _ .vmem, ⟨0, _⟩ => ⟨S1x512x3, .f32⟩
  | .local _ .vmem, ⟨1, _⟩ => ⟨S1x512x3, .f32⟩
  | .local _ .vmem, ⟨2, _⟩ => ⟨S1x3x1024, .f32⟩
  | .local _ .vmem, ⟨3, _⟩ => ⟨S1x3x1024, .f32⟩
  | .local _ .vmem, ⟨4, _⟩ => ⟨S1x128x512, .f32⟩
  | .local _ .vmem, ⟨5, _⟩ => ⟨S1x128x512, .f32⟩
  | .local _ .vmem, ⟨6, _⟩ => ⟨S1x256x1024, .f32⟩
  | .local _ .vmem, ⟨7, _⟩ => ⟨S1x256x1024, .f32⟩
  | .local _ .vmem, ⟨8, _⟩ => ⟨S128x256, .f32⟩
  | .local _ .vmem, ⟨9, _⟩ => ⟨S256x256, .f32⟩
  | .local _ .vmem, ⟨10, _⟩ => ⟨S1x512x256, .bf16⟩
  | .local _ .vmem, ⟨11, _⟩ => ⟨S1x512x256, .bf16⟩
  | .local _ .vmem, ⟨12, _⟩ => ⟨S1x1x2x256, .f32⟩
  | .local _ .vmem, ⟨13, _⟩ => ⟨S1x1x2x256, .f32⟩
  | .local _ .vmem, ⟨14, _⟩ => ⟨S1x2048x256, .bf16⟩
  | .local _ .vmem, ⟨15, _⟩ => ⟨S1x2048x256, .bf16⟩
  | .local _ .vmem, ⟨16, _⟩ => ⟨S8x8x2x256, .f32⟩
  | .local _ .vmem, ⟨17, _⟩ => ⟨S1x256, .f32⟩
  | .local _ .vmem, ⟨18, _⟩ => ⟨S1x256, .f32⟩
  | .local _ .vmem, ⟨19, _⟩ => ⟨S256x128, .f32⟩
  | .local _ .vmem, ⟨20, _⟩ => ⟨S1x128, .f32⟩
  | .local _ .vmem, ⟨21, _⟩ => ⟨S1x128, .f32⟩
  | .local _ .vmem, ⟨22, _⟩ => ⟨S1x128x2048, .f32⟩
  | .local _ .vmem, ⟨23, _⟩ => ⟨S1x128x2048, .f32⟩
  | .local _ .vmem, ⟨24, _⟩ => ⟨S16x2048x128, .f32⟩
  | .local _ .vmem, ⟨25, _⟩ => ⟨S2x128, .f32⟩
  | _, _ => ⟨S8x128x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10_0 : Ref sig .tc := ⟨.hbm, 22, rfl⟩
abbrev main_v10_1 : Ref sig .tc := ⟨.hbm, 23, rfl⟩
abbrev main_v11 : Ref sig .tc := ⟨.hbm, 24, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc1_stg0_0 : Ref sig .tc := ⟨.vmem, 14, rfl⟩
abbrev cc1_stg0_1 : Ref sig .tc := ⟨.vmem, 15, rfl⟩
abbrev cc1_stg1_0 : Ref sig .tc := ⟨.vmem, 16, rfl⟩
abbrev cc1_stg2_0 : Ref sig .tc := ⟨.vmem, 17, rfl⟩
abbrev cc1_stg3_0 : Ref sig .tc := ⟨.vmem, 18, rfl⟩
abbrev cc1_stg4_0 : Ref sig .tc := ⟨.vmem, 19, rfl⟩
abbrev cc1_stg5_0 : Ref sig .tc := ⟨.vmem, 20, rfl⟩
abbrev cc1_stg6_0 : Ref sig .tc := ⟨.vmem, 21, rfl⟩
abbrev cc1_stg7_0 : Ref sig .tc := ⟨.vmem, 22, rfl⟩
abbrev cc1_stg7_1 : Ref sig .tc := ⟨.vmem, 23, rfl⟩
abbrev cc1_scratch0 : Ref sig .tc := ⟨.vmem, 24, rfl⟩
abbrev cc1_scratch1 : Ref sig .tc := ⟨.vmem, 25, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem6_1 : DmaSem sig := 11
abbrev cc0_sem7_0 : DmaSem sig := 12
abbrev cc0_sem7_1 : DmaSem sig := 13
abbrev cc1_sem0_0 : DmaSem sig := 14
abbrev cc1_sem0_1 : DmaSem sig := 15
abbrev cc1_sem1_0 : DmaSem sig := 16
abbrev cc1_sem2_0 : DmaSem sig := 17
abbrev cc1_sem3_0 : DmaSem sig := 18
abbrev cc1_sem4_0 : DmaSem sig := 19
abbrev cc1_sem5_0 : DmaSem sig := 20
abbrev cc1_sem6_0 : DmaSem sig := 21
abbrev cc1_sem7_0 : DmaSem sig := 22
abbrev cc1_sem7_1 : DmaSem sig := 23

abbrev nD : Nat := 1
abbrev τ : Topo := Topo.v7x

variable {F : FTy → Type} [FloatOps F]

abbrev grid0 : Pipeline.Grid := ⟨2, ![8, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage0_0 : Fin 2 → Memref sig .tc .vmem S1x512x3 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x3x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x128x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 1 → Memref sig .tc .vmem S128x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S256x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S1x512x256 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x1x2x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev grid1 : Pipeline.Grid := ⟨3, ![2, 8, 2], ![false, false, false]⟩

def k1_cond1 (i : grid1.Coords) : BitVec 1 :=
  let arg0 : BitVec 32 := BitVec.ofNat 32 (i 0).val
  let c0_i32 : BitVec 32 := 0#32
  let v2 : BitVec 1 := Scalar.cmpi .eq arg0 c0_i32
  let v3 : BitVec 32 := Scalar.extui v2
  let c0_i32_0 : BitVec 32 := 0#32
  let v4 : BitVec 1 := Scalar.cmpi .ne v3 c0_i32_0
  v4

def k1_off1 (i : grid1.Coords) : Fin 3 → Nat :=
  let arg1 : BitVec 32 := BitVec.ofNat 32 (i 1).val
  let c2_i32 : BitVec 32 := 2#32
  let v0 : BitVec 32 := Scalar.muli arg1 c2_i32
  let arg2 : BitVec 32 := BitVec.ofNat 32 (i 2).val
  let v1 : BitVec 32 := Scalar.addi v0 arg2
  let v41 : Index := Scalar.indexCast v1
  let c0_19 : Index := 0#32
  let c0_20 : Index := 0#32
  ![v41.toNat, 0, 0]
def k1_cond4 (i : grid1.Coords) : BitVec 1 :=
  let arg0 : BitVec 32 := BitVec.ofNat 32 (i 0).val
  let c1_i32 : BitVec 32 := 1#32
  let v5 : BitVec 1 := Scalar.cmpi .eq arg0 c1_i32
  let v6 : BitVec 32 := Scalar.extui v5
  let c0_i32_1 : BitVec 32 := 0#32
  let v7 : BitVec 1 := Scalar.cmpi .ne v6 c0_i32_1
  v7

def k1_off2 (i : grid1.Coords) : Fin 3 → Nat :=
  let arg1 : BitVec 32 := BitVec.ofNat 32 (i 1).val
  let c2_i32 : BitVec 32 := 2#32
  let v0 : BitVec 32 := Scalar.muli arg1 c2_i32
  let arg2 : BitVec 32 := BitVec.ofNat 32 (i 2).val
  let v1 : BitVec 32 := Scalar.addi v0 arg2
  let v20 : Index := Scalar.indexCast v1
  let c0_5 : Index := 0#32
  let c0_6 : Index := 0#32
  ![v20.toNat, 0, 0]
def cc1_transform_0 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.subi c1_i32 arg0
  let v1 : BitVec 32 := Scalar.muli arg1 v0
  let c1_i32_0 : BitVec 32 := 1#32
  let v2 : BitVec 32 := Scalar.subi c1_i32_0 arg0
  let v3 : BitVec 32 := Scalar.muli arg2 v2
  let c0_i32 : BitVec 32 := 0#32
  let c0_i32_1 : BitVec 32 := 0#32
  ![v1.toNat, v3.toNat, c0_i32.toNat]

def cc1_transform_1 (i : grid1.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc1_transform_2 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let v0 : BitVec 32 := Scalar.muli arg1 arg0
  let v1 : BitVec 32 := Scalar.muli arg2 arg0
  let c0_i32 : BitVec 32 := 0#32
  let c0_i32_0 : BitVec 32 := 0#32
  ![v0.toNat, c0_i32.toNat, v1.toNat]

abbrev stage1_0 : Fin 2 → Memref sig .tc .vmem S1x2048x256 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true, true]

abbrev stage1_1 : Fin 1 → Memref sig .tc .vmem S8x8x2x256 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false, false, false]

abbrev stage1_2 : Fin 1 → Memref sig .tc .vmem S1x256 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false, false, false]

abbrev stage1_3 : Fin 1 → Memref sig .tc .vmem S1x256 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false, false, false]

abbrev stage1_4 : Fin 1 → Memref sig .tc .vmem S256x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false, false, false]

abbrev stage1_5 : Fin 1 → Memref sig .tc .vmem S1x128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false, false, false]

abbrev stage1_6 : Fin 1 → Memref sig .tc .vmem S1x128 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false, false, false]

abbrev stage1_7 : Fin 2 → Memref sig .tc .vmem S1x128x2048 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true, true, true]
-- ==== KernelIdeal.lean ====
variable {F : FTy → Type} [FloatOps F] [Named F]
def κ : String → Option EReal := fun
  | "mask" => some ⊤
  | _ => none
-- ==== ReferenceIdeal.lean ====
abbrev S8x128x4096 : Shape := ⟨3, ![8, 128, 4096]⟩
abbrev S8x3x4096 : Shape := ⟨3, ![8, 3, 4096]⟩
abbrev S8x256x1024 : Shape := ⟨3, ![8, 256, 1024]⟩
abbrev S8x3x1024 : Shape := ⟨3, ![8, 3, 1024]⟩
abbrev S256x384 : Shape := ⟨2, ![256, 384]⟩
abbrev S256 : Shape := ⟨1, ![256]⟩
abbrev S128x256 : Shape := ⟨2, ![128, 256]⟩
abbrev S128 : Shape := ⟨1, ![128]⟩
abbrev S8x4096x3 : Shape := ⟨3, ![8, 4096, 3]⟩
abbrev S8x1024x3 : Shape := ⟨3, ![8, 1024, 3]⟩
abbrev S8x1024x256 : Shape := ⟨3, ![8, 1024, 256]⟩
abbrev S8x4096x1024 : Shape := ⟨3, ![8, 4096, 1024]⟩
abbrev S_ : Shape := ⟨0, ![]⟩
abbrev S8x4096 : Shape := ⟨2, ![8, 4096]⟩
abbrev S8x4096x1 : Shape := ⟨3, ![8, 4096, 1]⟩
abbrev S8x1024 : Shape := ⟨2, ![8, 1024]⟩
abbrev S8x1x1024 : Shape := ⟨3, ![8, 1, 1024]⟩
abbrev S8 : Shape := ⟨1, ![8]⟩
abbrev S8x1x1 : Shape := ⟨3, ![8, 1, 1]⟩
abbrev S8x4096x3x1 : Shape := ⟨4, ![8, 4096, 3, 1]⟩
abbrev S8x4096x3x2 : Shape := ⟨4, ![8, 4096, 3, 2]⟩
abbrev S8x4096x3x256 : Shape := ⟨4, ![8, 4096, 3, 256]⟩
abbrev S8x4096x256 : Shape := ⟨3, ![8, 4096, 256]⟩
abbrev S8x4096x128 : Shape := ⟨3, ![8, 4096, 128]⟩
abbrev S8x4096x384 : Shape := ⟨3, ![8, 4096, 384]⟩
abbrev S8x384x4096 : Shape := ⟨3, ![8, 384, 4096]⟩
abbrev S8x256x4096 : Shape := ⟨3, ![8, 256, 4096]⟩
abbrev S1x256x1 : Shape := ⟨3, ![1, 256, 1]⟩
abbrev S1x128x1 : Shape := ⟨3, ![1, 128, 1]⟩

abbrev nBuf : Space → Nat
  | .hbm => 151
  | .vmem => 0
  | .smem => 0
  | _ => 0

abbrev hbmTy0_0 (i : Nat) : BufTy := match i % 128 with
  | 0 => ⟨S8x128x4096, .f32⟩
  | 1 => ⟨S8x3x4096, .f32⟩
  | 2 => ⟨S8x256x1024, .f32⟩
  | 3 => ⟨S8x3x1024, .f32⟩
  | 4 => ⟨S256x384, .f32⟩
  | 5 => ⟨S256, .f32⟩
  | 6 => ⟨S256, .f32⟩
  | 7 => ⟨S256, .f32⟩
  | 8 => ⟨S128x256, .f32⟩
  | 9 => ⟨S128, .f32⟩
  | 10 => ⟨S128, .f32⟩
  | 11 => ⟨S128, .f32⟩
  | 12 => ⟨S8x4096x3, .f32⟩
  | 13 => ⟨S8x1024x3, .f32⟩
  | 14 => ⟨S8x1024x256, .f32⟩
  | 15 => ⟨S8x3x1024, .f32⟩
  | 16 => ⟨S8x4096x1024, .f32⟩
  | 17 => ⟨S_, .f32⟩
  | 18 => ⟨S8x4096x1024, .f32⟩
  | 19 => ⟨S8x4096x1024, .f32⟩
  | 20 => ⟨S8x4096x3, .f32⟩
  | 21 => ⟨S_, .f32⟩
  | 22 => ⟨S8x4096, .f32⟩
  | 23 => ⟨S8x4096x1, .f32⟩
  | 24 => ⟨S8x4096x1024, .f32⟩
  | 25 => ⟨S8x4096x1024, .f32⟩
  | 26 => ⟨S8x1024x3, .f32⟩
  | 27 => ⟨S_, .f32⟩
  | 28 => ⟨S8x1024, .f32⟩
  | 29 => ⟨S8x1x1024, .f32⟩
  | 30 => ⟨S8x4096x1024, .f32⟩
  | 31 => ⟨S8x4096x1024, .f32⟩
  | 32 => ⟨S8x4096x1024, .i32⟩
  | 33 => ⟨S8x4096x1024, .f32⟩
  | 34 => ⟨S8x4096x1024, .i32⟩
  | 35 => ⟨S8x4096x3, .f32⟩
  | 36 => ⟨S8x4096x3, .i32⟩
  | 37 => ⟨S_, .f32⟩
  | 38 => ⟨S8x4096x3, .f32⟩
  | 39 => ⟨S8x4096x3, .f32⟩
  | 40 => ⟨S_, .f32⟩
  | 41 => ⟨S8x4096x3, .f32⟩
  | 42 => ⟨S8x4096x3, .f32⟩
  | 43 => ⟨S_, .f32⟩
  | 44 => ⟨S8x4096, .f32⟩
  | 45 => ⟨S8x4096x1, .f32⟩
  | 46 => ⟨S8x4096x3, .f32⟩
  | 47 => ⟨S8x4096x3, .f32⟩
  | 48 => ⟨S8, .i32⟩
  | 49 => ⟨S8x1x1, .i32⟩
  | 50 => ⟨S_, .i32⟩
  | 51 => ⟨S8x1x1, .i32⟩
  | 52 => ⟨S8x1x1, .i1⟩
  | 53 => ⟨S_, .i32⟩
  | 54 => ⟨S8x1x1, .i32⟩
  | 55 => ⟨S8x1x1, .i32⟩
  | 56 => ⟨S8x1x1, .i32⟩
  | 57 => ⟨S_, .i32⟩
  | 58 => ⟨S8x4096x3, .i32⟩
  | 59 => ⟨S8x4096x3, .i1⟩
  | 60 => ⟨S_, .i32⟩
  | 61 => ⟨S8x4096x3, .i32⟩
  | 62 => ⟨S8x4096x3, .i32⟩
  | 63 => ⟨S8x4096x3, .i32⟩
  | 64 => ⟨S8x4096x3, .i32⟩
  | 65 => ⟨S8x4096x3x1, .i32⟩
  | 66 => ⟨S8x4096x3x1, .i32⟩
  | 67 => ⟨S8x4096x3x2, .i32⟩
  | 68 => ⟨S8x4096x3x256, .f32⟩
  | 69 => ⟨S8x4096x3x1, .f32⟩
  | 70 => ⟨S8x4096x3x256, .f32⟩
  | 71 => ⟨S8x4096x3x256, .f32⟩
  | 72 => ⟨S_, .f32⟩
  | 73 => ⟨S8x4096x256, .f32⟩
  | 74 => ⟨S8x4096x128, .f32⟩
  | 75 => ⟨S8x4096x384, .f32⟩
  | 76 => ⟨S8x384x4096, .f32⟩
  | 77 => ⟨S8x4096x256, .f32⟩
  | 78 => ⟨S8x256x4096, .f32⟩
  | 79 => ⟨S1x256x1, .f32⟩
  | 80 => ⟨S8x256x4096, .f32⟩
  | 81 => ⟨S8x256x4096, .f32⟩
  | 82 => ⟨S_, .f32⟩
  | 83 => ⟨S256, .f32⟩
  | 84 => ⟨S1x256x1, .f32⟩
  | 85 => ⟨S_, .f32⟩
  | 86 => ⟨S1x256x1, .f32⟩
  | 87 => ⟨S1x256x1, .f32⟩
  | 88 => ⟨S8x256x4096, .f32⟩
  | 89 => ⟨S8x256x4096, .f32⟩
  | 90 => ⟨S8x256x4096, .f32⟩
  | 91 => ⟨S_, .f32⟩
  | 92 => ⟨S256, .f32⟩
  | 93 => ⟨S1x256x1, .f32⟩
  | 94 => ⟨S_, .f32⟩
  | 95 => ⟨S1x256x1, .f32⟩
  | 96 => ⟨S1x256x1, .f32⟩
  | 97 => ⟨S8x256x4096, .f32⟩
  | 98 => ⟨S8x256x4096, .f32⟩
  | 99 => ⟨S_, .f32⟩
  | 100 => ⟨S1x256x1, .f32⟩
  | 101 => ⟨S1x256x1, .f32⟩
  | 102 => ⟨S1x256x1, .f32⟩
  | 103 => ⟨S8x256x4096, .f32⟩
  | 104 => ⟨S8x256x4096, .f32⟩
  | 105 => ⟨S1x256x1, .f32⟩
  | 106 => ⟨S8x256x4096, .f32⟩
  | 107 => ⟨S8x256x4096, .f32⟩
  | 108 => ⟨S1x256x1, .f32⟩
  | 109 => ⟨S8x256x4096, .f32⟩
  | 110 => ⟨S8x256x4096, .f32⟩
  | 111 => ⟨S_, .f32⟩
  | 112 => ⟨S8x256x4096, .f32⟩
  | 113 => ⟨S8x256x4096, .f32⟩
  | 114 => ⟨S8x4096x128, .f32⟩
  | 115 => ⟨S8x128x4096, .f32⟩
  | 116 => ⟨S1x128x1, .f32⟩
  | 117 => ⟨S8x128x4096, .f32⟩
  | 118 => ⟨S8x128x4096, .f32⟩
  | 119 => ⟨S_, .f32⟩
  | 120 => ⟨S128, .f32⟩
  | 121 => ⟨S1x128x1, .f32⟩
  | 122 => ⟨S_, .f32⟩
  | 123 => ⟨S1x128x1, .f32⟩
  | 124 => ⟨S1x128x1, .f32⟩
  | 125 => ⟨S8x128x4096, .f32⟩
  | 126 => ⟨S8x128x4096, .f32⟩
  | 127 => ⟨S8x128x4096, .f32⟩
  | _ => ⟨S8x128x4096, .f32⟩

abbrev hbmTy0_1 (i : Nat) : BufTy := match i % 128 with
  | 0 => ⟨S_, .f32⟩
  | 1 => ⟨S128, .f32⟩
  | 2 => ⟨S1x128x1, .f32⟩
  | 3 => ⟨S_, .f32⟩
  | 4 => ⟨S1x128x1, .f32⟩
  | 5 => ⟨S1x128x1, .f32⟩
  | 6 => ⟨S8x128x4096, .f32⟩
  | 7 => ⟨S8x128x4096, .f32⟩
  | 8 => ⟨S_, .f32⟩
  | 9 => ⟨S1x128x1, .f32⟩
  | 10 => ⟨S1x128x1, .f32⟩
  | 11 => ⟨S1x128x1, .f32⟩
  | 12 => ⟨S8x128x4096, .f32⟩
  | 13 => ⟨S8x128x4096, .f32⟩
  | 14 => ⟨S1x128x1, .f32⟩
  | 15 => ⟨S8x128x4096, .f32⟩
  | 16 => ⟨S8x128x4096, .f32⟩
  | 17 => ⟨S1x128x1, .f32⟩
  | 18 => ⟨S8x128x4096, .f32⟩
  | 19 => ⟨S8x128x4096, .f32⟩
  | 20 => ⟨S_, .f32⟩
  | 21 => ⟨S8x128x4096, .f32⟩
  | 22 => ⟨S8x128x4096, .f32⟩
  | _ => ⟨S8x128x4096, .f32⟩

abbrev hbmTy (i : Nat) : BufTy := match i / 128 with
  | 0 => hbmTy0_0 i
  | 1 => hbmTy0_1 i
  | _ => ⟨S8x128x4096, .f32⟩

abbrev bufTy : (tb : Table) → Fin (tcTables nBuf tb) → BufTy
  | .hbm, ⟨i, _⟩ => hbmTy i
  | _, _ => ⟨S8x128x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_cst : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_cst_0 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_cst_1 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18_0 : Ref sig .tc := ⟨.hbm, 33, rfl⟩
abbrev main_v18_1 : Ref sig .tc := ⟨.hbm, 34, rfl⟩
abbrev main_v19 : Ref sig .tc := ⟨.hbm, 35, rfl⟩
abbrev main_v20 : Ref sig .tc := ⟨.hbm, 36, rfl⟩
abbrev main_cst_2 : Ref sig .tc := ⟨.hbm, 37, rfl⟩
abbrev main_v21 : Ref sig .tc := ⟨.hbm, 38, rfl⟩
abbrev main_v22 : Ref sig .tc := ⟨.hbm, 39, rfl⟩
abbrev main_cst_3 : Ref sig .tc := ⟨.hbm, 40, rfl⟩
abbrev main_v23 : Ref sig .tc := ⟨.hbm, 41, rfl⟩
abbrev main_v24 : Ref sig .tc := ⟨.hbm, 42, rfl⟩
abbrev main_cst_4 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_c : Ref sig .tc := ⟨.hbm, 50, rfl⟩
abbrev main_v31 : Ref sig .tc := ⟨.hbm, 51, rfl⟩
abbrev main_v32 : Ref sig .tc := ⟨.hbm, 52, rfl⟩
abbrev main_c_5 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_c_6 : Ref sig .tc := ⟨.hbm, 57, rfl⟩
abbrev main_v36 : Ref sig .tc := ⟨.hbm, 58, rfl⟩
abbrev main_v37 : Ref sig .tc := ⟨.hbm, 59, rfl⟩
abbrev main_c_7 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_cst_8 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_cst_9 : Ref sig .tc := ⟨.hbm, 82, rfl⟩
abbrev main_v58 : Ref sig .tc := ⟨.hbm, 83, rfl⟩
abbrev main_v59 : Ref sig .tc := ⟨.hbm, 84, rfl⟩
abbrev main_cst_10 : Ref sig .tc := ⟨.hbm, 85, rfl⟩
abbrev main_v60 : Ref sig .tc := ⟨.hbm, 86, rfl⟩
abbrev main_v61 : Ref sig .tc := ⟨.hbm, 87, rfl⟩
abbrev main_v62 : Ref sig .tc := ⟨.hbm, 88, rfl⟩
abbrev main_v63 : Ref sig .tc := ⟨.hbm, 89, rfl⟩
abbrev main_v64 : Ref sig .tc := ⟨.hbm, 90, rfl⟩
abbrev main_cst_11 : Ref sig .tc := ⟨.hbm, 91, rfl⟩
abbrev main_v65 : Ref sig .tc := ⟨.hbm, 92, rfl⟩
abbrev main_v66 : Ref sig .tc := ⟨.hbm, 93, rfl⟩
abbrev main_cst_12 : Ref sig .tc := ⟨.hbm, 94, rfl⟩
abbrev main_v67 : Ref sig .tc := ⟨.hbm, 95, rfl⟩
abbrev main_v68 : Ref sig .tc := ⟨.hbm, 96, rfl⟩
abbrev main_v69 : Ref sig .tc := ⟨.hbm, 97, rfl⟩
abbrev main_v70 : Ref sig .tc := ⟨.hbm, 98, rfl⟩
abbrev main_cst_13 : Ref sig .tc := ⟨.hbm, 99, rfl⟩
abbrev main_v71 : Ref sig .tc := ⟨.hbm, 100, rfl⟩
abbrev main_v72 : Ref sig .tc := ⟨.hbm, 101, rfl⟩
abbrev main_v73 : Ref sig .tc := ⟨.hbm, 102, rfl⟩
abbrev main_v74 : Ref sig .tc := ⟨.hbm, 103, rfl⟩
abbrev main_v75 : Ref sig .tc := ⟨.hbm, 104, rfl⟩
abbrev main_v76 : Ref sig .tc := ⟨.hbm, 105, rfl⟩
abbrev main_v77 : Ref sig .tc := ⟨.hbm, 106, rfl⟩
abbrev main_v78 : Ref sig .tc := ⟨.hbm, 107, rfl⟩
abbrev main_v79 : Ref sig .tc := ⟨.hbm, 108, rfl⟩
abbrev main_v80 : Ref sig .tc := ⟨.hbm, 109, rfl⟩
abbrev main_v81 : Ref sig .tc := ⟨.hbm, 110, rfl⟩
abbrev main_call0_cst : Ref sig .tc := ⟨.hbm, 111, rfl⟩
abbrev main_call0_v0 : Ref sig .tc := ⟨.hbm, 112, rfl⟩
abbrev main_v82 : Ref sig .tc := ⟨.hbm, 113, rfl⟩
abbrev main_v83 : Ref sig .tc := ⟨.hbm, 114, rfl⟩
abbrev main_v84 : Ref sig .tc := ⟨.hbm, 115, rfl⟩
abbrev main_v85 : Ref sig .tc := ⟨.hbm, 116, rfl⟩
abbrev main_v86 : Ref sig .tc := ⟨.hbm, 117, rfl⟩
abbrev main_v87 : Ref sig .tc := ⟨.hbm, 118, rfl⟩
abbrev main_cst_14 : Ref sig .tc := ⟨.hbm, 119, rfl⟩
abbrev main_v88 : Ref sig .tc := ⟨.hbm, 120, rfl⟩
abbrev main_v89 : Ref sig .tc := ⟨.hbm, 121, rfl⟩
abbrev main_cst_15 : Ref sig .tc := ⟨.hbm, 122, rfl⟩
abbrev main_v90 : Ref sig .tc := ⟨.hbm, 123, rfl⟩
abbrev main_v91 : Ref sig .tc := ⟨.hbm, 124, rfl⟩
abbrev main_v92 : Ref sig .tc := ⟨.hbm, 125, rfl⟩
abbrev main_v93 : Ref sig .tc := ⟨.hbm, 126, rfl⟩
abbrev main_v94 : Ref sig .tc := ⟨.hbm, 127, rfl⟩
abbrev main_cst_16 : Ref sig .tc := ⟨.hbm, 128, rfl⟩
abbrev main_v95 : Ref sig .tc := ⟨.hbm, 129, rfl⟩
abbrev main_v96 : Ref sig .tc := ⟨.hbm, 130, rfl⟩
abbrev main_cst_17 : Ref sig .tc := ⟨.hbm, 131, rfl⟩
abbrev main_v97 : Ref sig .tc := ⟨.hbm, 132, rfl⟩
abbrev main_v98 : Ref sig .tc := ⟨.hbm, 133, rfl⟩
abbrev main_v99 : Ref sig .tc := ⟨.hbm, 134, rfl⟩
abbrev main_v100 : Ref sig .tc := ⟨.hbm, 135, rfl⟩
abbrev main_cst_18 : Ref sig .tc := ⟨.hbm, 136, rfl⟩
abbrev main_v101 : Ref sig .tc := ⟨.hbm, 137, rfl⟩
abbrev main_v102 : Ref sig .tc := ⟨.hbm, 138, rfl⟩
abbrev main_v103 : Ref sig .tc := ⟨.hbm, 139, rfl⟩
abbrev main_v104 : Ref sig .tc := ⟨.hbm, 140, rfl⟩
abbrev main_v105 : Ref sig .tc := ⟨.hbm, 141, rfl⟩
abbrev main_v106 : Ref sig .tc := ⟨.hbm, 142, rfl⟩
abbrev main_v107 : Ref sig .tc := ⟨.hbm, 143, rfl⟩
abbrev main_v108 : Ref sig .tc := ⟨.hbm, 144, rfl⟩
abbrev main_v109 : Ref sig .tc := ⟨.hbm, 145, rfl⟩
abbrev main_v110 : Ref sig .tc := ⟨.hbm, 146, rfl⟩
abbrev main_v111 : Ref sig .tc := ⟨.hbm, 147, rfl⟩
abbrev main_call1_cst : Ref sig .tc := ⟨.hbm, 148, rfl⟩
abbrev main_call1_v0 : Ref sig .tc := ⟨.hbm, 149, rfl⟩
abbrev main_v112 : Ref sig .tc := ⟨.hbm, 150, rfl⟩

abbrev nD : Nat := 1
abbrev τ : Topo := Topo.v7x

variable {F : FTy → Type} [FloatOps F]
-- ==== Proof.KI_Region0.lean ====
/- The first kernel of the program: what one grid point leaves in its two outputs, and the obligation of its pipeline. -/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.UnfoldOut
public import Idealize.ShloMosaic.Lib.WordCmp

@[expose] public section

set_option maxRecDepth 16384

noncomputable section

namespace Cert.KernelIdeal.Own

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (V : (c : Dev nD) → (b : Ref sig .tc) → Buf (Elt F) ((c : Thread nD τ).loc b))

/-! # REGION 0 of @main: custom_call 0, `cc0__stage1` (pipeline 0), at the entry contents `V` -/

/-! ## The windows' blocks -/

/-- Window `w`'s block at point `t`, read off its array as the region finds it (`V`). -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
/-- Input window 2's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)
/-- Input window 3's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)
/-- Input window 4's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)
/-- Input window 5's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_5_of {c : Dev nD} (dat : Dat τ (Elt F) Unit ℕ (UR sig nD τ) ℕ cfg0 c) (hA : dat.A 5 = V c (Pipeline.arrRef spec0 5))
    (hafter : ∀ t, dat.after 5 t = iblk0 V c 5 t) (t : Fin cfg0.N) (d) : dat.before 5 t d = iblk0 V c 5 t :=
  (dat.before_in_eq_fetched 5 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses -/

abbrev r0_0 : Rect S1x512x3 := Rect.unit (s := S1x512x3) ![0, 0, 0] S1x512x3.size inb_S1x512x3_S1x512x3_0_0_0
abbrev r0_1 : Rect S1x3x1024 := Rect.unit (s := S1x3x1024) ![0, 0, 0] S1x3x1024.size inb_S1x3x1024_S1x3x1024_0_0_0
abbrev r0_2 : Rect S1x256x1024 := Rect.unit (s := S1x256x1024) ![0, 0, 0] S1x256x1024.size inb_S1x256x1024_S1x256x1024_0_0_0
abbrev r0_3 : Rect S1x128x512 := Rect.unit (s := S1x128x512) ![0, 0, 0] S1x128x512.size inb_S1x128x512_S1x128x512_0_0_0
abbrev r0_4 : Rect S128x256 := Rect.unit (s := S128x256) ![0, 0] S128x256.size inb_S128x256_S128x256_0_0
abbrev r0_5 : Rect S256x256 := Rect.unit (s := S256x256) ![0, 0] S256x256.size inb_S256x256_S256x256_0_0
abbrev r0_6 : Rect S1x512x256 := Rect.unit (s := S1x512x256) ![0, 0, 0] S1x512x256.size inb_S1x512x256_S1x512x256_0_0_0
abbrev r0_7 : Rect S1x1x2x256 := Rect.unit (s := S1x1x2x256) ![0, 0, 0, 0] S1x1x2x256.size inb_S1x1x2x256_S1x1x2x256_0_0_0_0

/-! ## What the body leaves in each output window's buffer -/

/-! ### Values of the body that the stores' payloads, spelt out, would write more than once

    Each is a vector the body binds (often a part call's result), stated over the input windows' blocks and
    numbered on from the skeleton's payload functions (`st1_val28` …, after `k0_pay27`), so that
    `out0_W` and the values after it name it instead of spelling it out (`unfold_out out0_W` opens a canon
    with them, `unfold_payloads` opens them with the payloads); the comment after each is the printed function's
    name for the value (a count appended where that name is bound again). -/

def st1_val28 (x0 : Vec F S1x512x3 .f32) (x1 : Vec F S1x3x1024 .f32) (x2 : Vec F S1x128x512 .f32) (x3 : Vec F S1x256x1024 .f32) (x4 : Vec F S128x256 .f32) (x5 : Vec F S256x256 .f32) : FVec F S512x1 .f32 :=
  k0_pay8 (View.ld x0 r0_0) (View.ld x1 r0_1) -- `v34`
def st1_val29 (x0 : Vec F S1x512x3 .f32) (x1 : Vec F S1x3x1024 .f32) (x2 : Vec F S1x128x512 .f32) (x3 : Vec F S1x256x1024 .f32) (x4 : Vec F S128x256 .f32) (x5 : Vec F S256x256 .f32) : FVec F S512x1 .f32 :=
  k0_pay9 (View.ld x0 r0_0) (View.ld x1 r0_1) -- `v38`
def st1_val30 (x0 : Vec F S1x512x3 .f32) (x1 : Vec F S1x3x1024 .f32) (x2 : Vec F S1x128x512 .f32) (x3 : Vec F S1x256x1024 .f32) (x4 : Vec F S128x256 .f32) (x5 : Vec F S256x256 .f32) : FVec F S512x1024 .f32 :=
  k0_pay10 (View.ld x0 r0_0) (View.ld x1 r0_1) -- `v40`
def st1_val31 (x0 : Vec F S1x512x3 .f32) (x1 : Vec F S1x3x1024 .f32) (x2 : Vec F S1x128x512 .f32) (x3 : Vec F S1x256x1024 .f32) (x4 : Vec F S128x256 .f32) (x5 : Vec F S256x256 .f32) : FVec F S512x1 .f32 :=
  k0_pay11 (View.ld x0 r0_0) (View.ld x1 r0_1) -- `v42`
def st1_val32 (x0 : Vec F S1x512x3 .f32) (x1 : Vec F S1x3x1024 .f32) (x2 : Vec F S1x128x512 .f32) (x3 : Vec F S1x256x1024 .f32) (x4 : Vec F S128x256 .f32) (x5 : Vec F S256x256 .f32) : FVec F S512x1024 .f32 :=
  k0_pay12 (View.ld x0 r0_0) (View.ld x1 r0_1) -- `v43`
def st1_val33 (x0 : Vec F S1x512x3 .f32) (x1 : Vec F S1x3x1024 .f32) (x2 : Vec F S1x128x512 .f32) (x3 : Vec F S1x256x1024 .f32) (x4 : Vec F S128x256 .f32) (x5 : Vec F S256x256 .f32) : FVec F S512x1024 .f32 :=
  k0_pay14 (st1_val30 x0 x1 x2 x3 x4 x5) (st1_val32 x0 x1 x2 x3 x4 x5) -- `v46`
def st1_val34 (x0 : Vec F S1x512x3 .f32) (x1 : Vec F S1x3x1024 .f32) (x2 : Vec F S1x128x512 .f32) (x3 : Vec F S1x256x1024 .f32) (x4 : Vec F S128x256 .f32) (x5 : Vec F S256x256 .f32) : FVec F S512x1024 .f32 :=
  k0_pay19 (st1_val30 x0 x1 x2 x3 x4 x5) (st1_val32 x0 x1 x2 x3 x4 x5) -- `v60`
def st1_val35 (x0 : Vec F S1x512x3 .f32) (x1 : Vec F S1x3x1024 .f32) (x2 : Vec F S1x128x512 .f32) (x3 : Vec F S1x256x1024 .f32) (x4 : Vec F S128x256 .f32) (x5 : Vec F S256x256 .f32) : FVec F S512x1 .f32 :=
  k0_pay20 (st1_val30 x0 x1 x2 x3 x4 x5) (st1_val32 x0 x1 x2 x3 x4 x5) -- `v62`
def st1_val36 (x0 : Vec F S1x512x3 .f32) (x1 : Vec F S1x3x1024 .f32) (x2 : Vec F S1x128x512 .f32) (x3 : Vec F S1x256x1024 .f32) (x4 : Vec F S128x256 .f32) (x5 : Vec F S256x256 .f32) : FVec F S512x1 .f32 :=
  k0_pay21 (st1_val30 x0 x1 x2 x3 x4 x5) (st1_val32 x0 x1 x2 x3 x4 x5) -- `v66`
def st1_val37 (x0 : Vec F S1x512x3 .f32) (x1 : Vec F S1x3x1024 .f32) (x2 : Vec F S1x128x512 .f32) (x3 : Vec F S1x256x1024 .f32) (x4 : Vec F S128x256 .f32) (x5 : Vec F S256x256 .f32) : FVec F S512x1 .f32 :=
  k0_pay24 (st1_val28 x0 x1 x2 x3 x4 x5) (st1_val30 x0 x1 x2 x3 x4 x5) (st1_val32 x0 x1 x2 x3 x4 x5) -- `v75`
def st1_val38 (x0 : Vec F S1x512x3 .f32) (x1 : Vec F S1x3x1024 .f32) (x2 : Vec F S1x128x512 .f32) (x3 : Vec F S1x256x1024 .f32) (x4 : Vec F S128x256 .f32) (x5 : Vec F S256x256 .f32) : FVec F S512x1 .f32 :=
  k0_pay25 (st1_val28 x0 x1 x2 x3 x4 x5) (st1_val29 x0 x1 x2 x3 x4 x5) (st1_val30 x0 x1 x2 x3 x4 x5) (st1_val31 x0 x1 x2 x3 x4 x5) (st1_val32 x0 x1 x2 x3 x4 x5) -- `v80`
def st1_val39 (x0 : Vec F S1x512x3 .f32) (x1 : Vec F S1x3x1024 .f32) (x2 : Vec F S1x128x512 .f32) (x3 : Vec F S1x256x1024 .f32) (x4 : Vec F S128x256 .f32) (x5 : Vec F S256x256 .f32) : FVec F S512x1024 .f32 :=
  k0_pay26 (k0_pay7 (View.ld x0 r0_0) (View.ld x1 r0_1)) (st1_val28 x0 x1 x2 x3 x4 x5) (st1_val29 x0 x1 x2 x3 x4 x5) (st1_val30 x0 x1 x2 x3 x4 x5) (st1_val31 x0 x1 x2 x3 x4 x5) (st1_val32 x0 x1 x2 x3 x4 x5) -- `v87`
def st1_val40 (x0 : Vec F S1x512x3 .f32) (x1 : Vec F S1x3x1024 .f32) (x2 : Vec F S1x128x512 .f32) (x3 : Vec F S1x256x1024 .f32) (x4 : Vec F S128x256 .f32) (x5 : Vec F S256x256 .f32) : FVec F S512x1024 .f32 :=
  k0_pay27 (st1_val28 x0 x1 x2 x3 x4 x5) (st1_val29 x0 x1 x2 x3 x4 x5) (st1_val30 x0 x1 x2 x3 x4 x5) (st1_val31 x0 x1 x2 x3 x4 x5) (st1_val32 x0 x1 x2 x3 x4 x5) -- `v91`

/-- Window 6's staging buffer after the body, from the input windows' blocks: its 1 store as pieces, LAST
    FIRST . -/
def out0_6 (x0 : Vec F S1x512x3 .f32) (x1 : Vec F S1x3x1024 .f32) (x2 : Vec F S1x128x512 .f32) (x3 : Vec F S1x256x1024 .f32) (x4 : Vec F S128x256 .f32) (x5 : Vec F S256x256 .f32) : Vec F S1x512x256 .bf16 :=
  View.canon [⟨r0_6, k0_pay2 (st1_val33 x0 x1 x2 x3 x4 x5) (st1_val34 x0 x1 x2 x3 x4 x5) (st1_val35 x0 x1 x2 x3 x4 x5) (st1_val36 x0 x1 x2 x3 x4 x5) (st1_val37 x0 x1 x2 x3 x4 x5) (st1_val38 x0 x1 x2 x3 x4 x5) (st1_val39 x0 x1 x2 x3 x4 x5) (st1_val40 x0 x1 x2 x3 x4 x5) (View.ld x3 r0_2) (View.ld x2 r0_3) (View.ld x4 r0_4) (View.ld x5 r0_5)⟩]

/-- Its stores tile the buffer (checked by evaluation), so they cover it. -/
theorem cover0_6 (p0 : Vec F S1x512x256 .bf16) (y : S1x512x256.Idx) :
    ∃ pc ∈ ([⟨r0_6, p0⟩] : List (View.Piece (Elt F) S1x512x256 .bf16)), y ∈ pc.1.set :=
  View.cover_of_tiled [⟨r0_6, p0⟩] S1x512x256.size (by rfl) y

/-- Window 7's staging buffer after the body, from the input windows' blocks: its 1 store as pieces, LAST
    FIRST . -/
def out0_7 (x0 : Vec F S1x512x3 .f32) (x1 : Vec F S1x3x1024 .f32) (x2 : Vec F S1x128x512 .f32) (x3 : Vec F S1x256x1024 .f32) (x4 : Vec F S128x256 .f32) (x5 : Vec F S256x256 .f32) : Vec F S1x1x2x256 .f32 :=
  View.canon [⟨r0_7, k0_pay3 (st1_val33 x0 x1 x2 x3 x4 x5) (st1_val34 x0 x1 x2 x3 x4 x5) (st1_val35 x0 x1 x2 x3 x4 x5) (st1_val36 x0 x1 x2 x3 x4 x5) (st1_val37 x0 x1 x2 x3 x4 x5) (st1_val38 x0 x1 x2 x3 x4 x5) (st1_val39 x0 x1 x2 x3 x4 x5) (st1_val40 x0 x1 x2 x3 x4 x5) (View.ld x3 r0_2) (View.ld x2 r0_3) (View.ld x4 r0_4) (View.ld x5 r0_5)⟩]

/-- Its stores tile the buffer (checked by evaluation), so they cover it. -/
theorem cover0_7 (p0 : Vec F S1x1x2x256 .f32) (y : S1x1x2x256.Idx) :
    ∃ pc ∈ ([⟨r0_7, p0⟩] : List (View.Piece (Elt F) S1x1x2x256 .f32)), y ∈ pc.1.set :=
  View.cover_of_tiled [⟨r0_7, p0⟩] S1x1x2x256.size (by rfl) y

/-! ## The body's triple -/

set_option maxHeartbeats 1000000 in
/-- The kernel body on whole staging memrefs, the inputs' at read contents `xW` and the outputs' at anything, runs to
    the continuation holding the inputs' as they were and each output's at `out0_W` of the inputs': the printed functions
    are their skeletons (`Gen.*_eq_skeleton`), which `sl_exec` runs , through every part call. -/
theorem sound_kernel0 (c : Dev nD) (E : Set ℕ) (i : grid0.Coords) (arg2 : Memref sig .tc .vmem S1x512x3 .f32) (harg2 : arg2.IsWhole) (arg3 : Memref sig .tc .vmem S1x3x1024 .f32) (harg3 : arg3.IsWhole) (arg4 : Memref sig .tc .vmem S1x128x512 .f32) (harg4 : arg4.IsWhole) (arg5 : Memref sig .tc .vmem S1x256x1024 .f32) (harg5 : arg5.IsWhole) (arg6 : Memref sig .tc .vmem S128x256 .f32) (harg6 : arg6.IsWhole) (arg7 : Memref sig .tc .vmem S256x256 .f32) (harg7 : arg7.IsWhole) (arg8 : Memref sig .tc .vmem S1x512x256 .bf16) (harg8 : arg8.IsWhole) (arg9 : Memref sig .tc .vmem S1x1x2x256 .f32) (harg9 : arg9.IsWhole)
    (x0 : Vec F S1x512x3 .f32) (x1 : Vec F S1x3x1024 .f32) (x2 : Vec F S1x128x512 .f32) (x3 : Vec F S1x256x1024 .f32) (x4 : Vec F S128x256 .f32) (x5 : Vec F S256x256 .f32) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg8 fullShare d) ∗ (∃ d, owns (c : Thread nD τ) arg9 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare (out0_6 x0 x1 x2 x3 x4 x5) ∗ owns (c : Thread nD τ) arg9 fullShare (out0_7 x0 x1 x2 x3 x4 x5)) -∗ K ⟨⟩))
      ⊢ wp frame (wpE (defs₀ (F := F)) Variants.none c none) E (cc0__stage1 i arg2 harg2 arg3 harg3 arg4 harg4 arg5 harg5 arg6 harg6 arg7 harg7 arg8 harg8 arg9 harg9) K := by
  simp only [cc0__stage1_eq_skeleton]; unfold cc0__stage1_skel
  simp only [k0_part1_eq_skeleton, k0_part2_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, Hk⟩
  subst hf0 hf1 hf2 hf3 hf4 hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists _; isplitr
    swap; · iexact H6
    ipureintro
    refine (View.read_writes_eq_canon _ _ _ (cover0_6 _)).trans ?_
    rfl
  iexists _; isplitr
  swap; · iexact H7
  ipureintro
  refine (View.read_writes_eq_canon _ _ _ (cover0_7 _)).trans ?_
  rfl

/-! ## The pipeline's proof data -/

/-- The proof data of pipeline 0 on core `c`: the arrays as the region finds them (`V`); after the body at
    point `t` each input's buffer at its block and each output's at `out0_W` of the input blocks; the invariant the
    class's ; nothing owed;
    full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => out0_6 (iblk0 V c 0 t) (iblk0 V c 1 t) (iblk0 V c 2 t) (iblk0 V c 3 t) (iblk0 V c 4 t) (iblk0 V c 5 t)
    | ⟨7, _⟩ => out0_7 (iblk0 V c 0 t) (iblk0 V c 1 t) (iblk0 V c 2 t) (iblk0 V c 3 t) (iblk0 V c 4 t) (iblk0 V c 5 t)
  Φ _ := Pipeline.ΦA spec0 c
  q _ := fullShare
  owed _ := 0

/-- The proof data's arrays are the region-entry contents, by projecting the definition (`dsimp`): a region record cites
    this for its arrays rather than have Lean unfold `V`, the fold through @main up to the region's entry. -/
theorem A_eq0 (c : Dev nD) (w : Fin cfg0.W) : (dat0 V c).A w = V c (Pipeline.arrRef spec0 w) := by
  dsimp only [dat0]

/-- What the body leaves, window by window (the proof data's `match` reduced by `dsimp`, never `rfl`: Lib/Pipeline.lean `Dat`). -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = iblk0 V c 5 t := by dsimp only [dat0]
theorem after0_6 (c : Dev nD) (t : Fin cfg0.N) : (dat0 V c).after 6 t = out0_6 (iblk0 V c 0 t) (iblk0 V c 1 t) (iblk0 V c 2 t) (iblk0 V c 3 t) (iblk0 V c 4 t) (iblk0 V c 5 t) := by dsimp only [dat0]
theorem after0_7 (c : Dev nD) (t : Fin cfg0.N) : (dat0 V c).after 7 t = out0_7 (iblk0 V c 0 t) (iblk0 V c 1 t) (iblk0 V c 2 t) (iblk0 V c 3 t) (iblk0 V c 4 t) (iblk0 V c 5 t) := by dsimp only [dat0]

/-- Each input's current staging buffer holds its block at every point, fetched there or not (`beforeK_W_of`). -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d
theorem before0_5 (c : Dev nD) (t : Fin cfg0.N) (d) : (dat0 V c).before 5 t d = iblk0 V c 5 t :=
  before0_5_of V (dat0 V c) (A_eq0 V c 5) (after0_5 V c) t d

/-! ## The body obligation, at a generic point -/

/-- What the body is called with at point `t` , -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d))
    ∗ (∃ d, owns (c : Thread nD τ) (st0_7 t) fullShare ((dat0 V c).before 7 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ owns (c : Thread nD τ) (st0_6 t) fullShare ((dat0 V c).after 6 t)
    ∗ owns (c : Thread nD τ) (st0_7 t) fullShare ((dat0 V c).after 7 t))

/-- The body at any point: the inputs' memrefs hold their blocks (`before0_W`), so `sound_kernel0` applies; the invariant and
    the core's `owes` pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4, before0_5]
  rw [show (dat0 V c).Φ t.succ = (dat0 V c).Φ t.castSucc from rfl,
    show (dat0 V c).owesAt () t.succ = (dat0 V c).owesAt () t.castSucc from rfl,
    after0_0, after0_1, after0_2, after0_3, after0_4, after0_5, after0_6, after0_7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel0 c Set.univ (grid0.coords t) _ _ _ _ _ _ _ _ _ _ _ _ _ _ _ _ (iblk0 V c 0 t) (iblk0 V c 1 t) (iblk0 V c 2 t) (iblk0 V c 3 t) (iblk0 V c 4 t) (iblk0 V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- The body table's row at point `t`'s slots is the body as `bodyAt0` spells it. -/
theorem defs₀_row0 (t : Fin cfg0.N) :
    defs₀ (F := F) .tc cfg0.body (cfg0.bodyArgs t (cfg0.slots t)) = bodyAt0 t := by
  unfold defs₀; rw [Defs.onTc_tc]

/-- The library's body obligation, at every point: the body's triple restated . -/
theorem body_obligation0 (c : Dev nD) : BodyObligation (dat0 (F := F) V c) (defs₀ (F := F)) Variants.none () Set.univ := fun t => by
  rw [bigSep_W0, bigSep_W0, defs₀_row0]
  exact triple_restated (sound_body0 V c t) rfl .rfl fun _ => .rfl

end Cert.KernelIdeal.Own

end
-- ==== Proof.KI_Facts1.lean ====
/- The second kernel of the program: its branch conditions over the grid, its blocks and its buffers. -/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.UnfoldOut
public import Idealize.ShloMosaic.Lib.WordCmp

@[expose] public section

set_option maxRecDepth 16384

noncomputable section

namespace Cert.KernelIdeal.Own

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

/-! ## The body's branch conditions -/

/-- The condition of the body's `scf.if` 0 (`k1_h1`), from the grid coordinates (the skeleton's scalar
    chain substituted). -/
abbrev cond1_0 (i : grid1.Coords) : Prop := (Scalar.cmpi .ne (Scalar.extui (Scalar.cmpi .eq (BitVec.ofNat 32 (i 0).val) 0#32)) 0#32) = 1#1
/-- It holds at the points before point 16 — by arithmetic of the point. -/
theorem hcond1_0 : ∀ t : Fin cfg1.N, cond1_0 (grid1.coords t) ↔ t.val < 16 :=
  (fun t => by
    have ht : t.val < 32 := Nat.lt_of_lt_of_eq t.isLt N_1
    have e0 : (grid1.coords t 0).val = t.val / 16 % 2 := Pipeline.Grid.coords_val t 0 (by decide) rfl
    have e1 : (grid1.coords t 1).val = t.val / 2 % 8 := Pipeline.Grid.coords_val t 1 (by decide) rfl
    have e2 : (grid1.coords t 2).val = t.val / 1 % 2 := Pipeline.Grid.coords_val t 2 (by decide) rfl
    simp only [cond1_0, e0, e1, e2]
    word_cmp
   : ∀ t : Fin grid1.N, cond1_0 (grid1.coords t) ↔ t.val < 16)

/-- The condition of the body's `scf.if` 1 (`k1_h2`), from the grid coordinates (the skeleton's scalar
    chain substituted). -/
abbrev cond1_1 (i : grid1.Coords) : Prop := (Scalar.cmpi .ne (Scalar.extui (Scalar.cmpi .eq (Scalar.addi (Scalar.muli (BitVec.ofNat 32 (i 1).val) 2#32) (BitVec.ofNat 32 (i 2).val)) 0#32)) 0#32) = 1#1
/-- It holds at the points ≡ 0 (mod 16) — decided over the grid. -/
theorem hcond1_1 : ∀ t : Fin cfg1.N, cond1_1 (grid1.coords t) ↔ t.val % 16 = 0 :=
  (by decide +kernel : ∀ t : Fin grid1.N, cond1_1 (grid1.coords t) ↔ t.val % 16 = 0)

/-- The condition of the body's `scf.if` 2 (`k1_h3`), from the grid coordinates (the skeleton's scalar
    chain substituted). -/
abbrev cond1_2 (i : grid1.Coords) : Prop := (Scalar.cmpi .ne (Scalar.extui (Scalar.cmpi .ne (Scalar.addi (Scalar.muli (BitVec.ofNat 32 (i 1).val) 2#32) (BitVec.ofNat 32 (i 2).val)) 0#32)) 0#32) = 1#1
/-- It holds at the points whose coordinates have 1 ≤ i1 + i2 — decided over the grid. -/
theorem hcond1_2 : ∀ t : Fin cfg1.N, cond1_2 (grid1.coords t) ↔ 1 ≤ t.val / 2 % 8 + t.val % 2 :=
  (by decide +kernel : ∀ t : Fin grid1.N, cond1_2 (grid1.coords t) ↔ 1 ≤ t.val / 2 % 8 + t.val % 2)

/-- The condition of the body's `scf.if` 3 (`k1_h4`), from the grid coordinates (the skeleton's scalar
    chain substituted). -/
abbrev cond1_3 (i : grid1.Coords) : Prop := k1_cond4 i = 1#1
/-- It holds at the points from point 16 on — by arithmetic of the point. -/
theorem hcond1_3 : ∀ t : Fin cfg1.N, cond1_3 (grid1.coords t) ↔ 16 ≤ t.val :=
  (fun t => by
    have ht : t.val < 32 := Nat.lt_of_lt_of_eq t.isLt N_1
    have e0 : (grid1.coords t 0).val = t.val / 16 % 2 := Pipeline.Grid.coords_val t 0 (by decide) rfl
    have e1 : (grid1.coords t 1).val = t.val / 2 % 8 := Pipeline.Grid.coords_val t 1 (by decide) rfl
    have e2 : (grid1.coords t 2).val = t.val / 1 % 2 := Pipeline.Grid.coords_val t 2 (by decide) rfl
    simp only [cond1_3, k1_cond4, e0, e1, e2]
    word_cmp
   : ∀ t : Fin grid1.N, cond1_3 (grid1.coords t) ↔ 16 ≤ t.val)

/-! ## Where the windows are idle (the printed configuration's table `Cfg.idle`) -/

/-- Window 0 is never idle (an input). -/
theorem liveAt1_0 : ∀ t : Fin cfg1.N, cfg1.idle 0 (grid1.coords t) = false := fun _ => rfl
/-- Window 1 is never idle (an input). -/
theorem liveAt1_1 : ∀ t : Fin cfg1.N, cfg1.idle 1 (grid1.coords t) = false := fun _ => rfl
/-- Window 2 is never idle (an input). -/
theorem liveAt1_2 : ∀ t : Fin cfg1.N, cfg1.idle 2 (grid1.coords t) = false := fun _ => rfl
/-- Window 3 is never idle (an input). -/
theorem liveAt1_3 : ∀ t : Fin cfg1.N, cfg1.idle 3 (grid1.coords t) = false := fun _ => rfl
/-- Window 4 is never idle (an input). -/
theorem liveAt1_4 : ∀ t : Fin cfg1.N, cfg1.idle 4 (grid1.coords t) = false := fun _ => rfl
/-- Window 5 is never idle (an input). -/
theorem liveAt1_5 : ∀ t : Fin cfg1.N, cfg1.idle 5 (grid1.coords t) = false := fun _ => rfl
/-- Window 6 is never idle (an input). -/
theorem liveAt1_6 : ∀ t : Fin cfg1.N, cfg1.idle 6 (grid1.coords t) = false := fun _ => rfl
/-! A case with many branch conditions on the grid states them as ONE proposition, its `Decidable` instance assembled
one condition at a time: the facts below about that case's points are decided under it and restated with one premise
per condition, so that the instance `decide` searches for does not grow with their number. -/

/-- Case A's branch conditions on the grid, as one proposition. -/
abbrev conds1_A (i : grid1.Coords) : Prop := cond1_0 i ∧ cond1_1 i ∧ ¬cond1_2 i ∧ ¬cond1_3 i
instance conds1_A.dec (i : grid1.Coords) : Decidable (conds1_A i) :=
  @instDecidableAnd _ _ inferInstance (@instDecidableAnd _ _ inferInstance (@instDecidableAnd _ _ inferInstance inferInstance))
/-- Case B's branch conditions on the grid, as one proposition. -/
abbrev conds1_B (i : grid1.Coords) : Prop := cond1_0 i ∧ ¬cond1_1 i ∧ cond1_2 i ∧ ¬cond1_3 i
instance conds1_B.dec (i : grid1.Coords) : Decidable (conds1_B i) :=
  @instDecidableAnd _ _ inferInstance (@instDecidableAnd _ _ inferInstance (@instDecidableAnd _ _ inferInstance inferInstance))
/-- At the points of case A the printed configuration (`Cfg.idle`) calls output 7 idle: the case stores nothing into it. -/
theorem idleAt1_7_A : ∀ t : Fin cfg1.N, cond1_0 (grid1.coords t) → cond1_1 (grid1.coords t) → ¬cond1_2 (grid1.coords t) → ¬cond1_3 (grid1.coords t) → cfg1.idle 7 (grid1.coords t) = true :=
  fun t h0 h1 h2 h3 => (by decide +kernel : ∀ t : Fin cfg1.N, conds1_A (grid1.coords t) → cfg1.idle 7 (grid1.coords t) = true) t ⟨h0, h1, h2, h3⟩
/-- At the points of case A the pipeline does not write output 7's block back. -/
theorem noFlush1_7_A : ∀ t : Fin cfg1.N, cond1_0 (grid1.coords t) → cond1_1 (grid1.coords t) → ¬cond1_2 (grid1.coords t) → ¬cond1_3 (grid1.coords t) → (cfg1.win 7).flush t = false :=
  fun t h0 h1 h2 h3 => (by decide +kernel : ∀ t : Fin cfg1.N, conds1_A (grid1.coords t) → (cfg1.win 7).flush t = false) t ⟨h0, h1, h2, h3⟩
/-- At the points of case B the printed configuration (`Cfg.idle`) calls output 7 idle: the case stores nothing into it. -/
theorem idleAt1_7_B : ∀ t : Fin cfg1.N, cond1_0 (grid1.coords t) → ¬cond1_1 (grid1.coords t) → cond1_2 (grid1.coords t) → ¬cond1_3 (grid1.coords t) → cfg1.idle 7 (grid1.coords t) = true :=
  fun t h0 h1 h2 h3 => (by decide +kernel : ∀ t : Fin cfg1.N, conds1_B (grid1.coords t) → cfg1.idle 7 (grid1.coords t) = true) t ⟨h0, h1, h2, h3⟩
/-- At the points of case B the pipeline does not write output 7's block back. -/
theorem noFlush1_7_B : ∀ t : Fin cfg1.N, cond1_0 (grid1.coords t) → ¬cond1_1 (grid1.coords t) → cond1_2 (grid1.coords t) → ¬cond1_3 (grid1.coords t) → (cfg1.win 7).flush t = false :=
  fun t h0 h1 h2 h3 => (by decide +kernel : ∀ t : Fin cfg1.N, conds1_B (grid1.coords t) → (cfg1.win 7).flush t = false) t ⟨h0, h1, h2, h3⟩
/-- At the points of case C the printed configuration (`Cfg.idle`) calls output 7 live: the case stores into it. -/
theorem liveAt1_7_C : ∀ t : Fin cfg1.N, ¬cond1_0 (grid1.coords t) → cond1_3 (grid1.coords t) → cfg1.idle 7 (grid1.coords t) = false := by decide +kernel

variable (V : (c : Dev nD) → (b : Ref sig .tc) → Buf (Elt F) ((c : Thread nD τ).loc b))

/-! ## The windows' blocks -/

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's staging buffer holds its block at every point, for proof data whose array is the entry
    contents' and whose body leaves the block in place. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
/-- Input window 1's staging buffer holds its block at every point, for proof data whose array is the entry
    contents' and whose body leaves the block in place. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
/-- Input window 2's staging buffer holds its block at every point, for proof data whose array is the entry
    contents' and whose body leaves the block in place. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
/-- Input window 3's staging buffer holds its block at every point, for proof data whose array is the entry
    contents' and whose body leaves the block in place. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)
/-- Input window 4's staging buffer holds its block at every point, for proof data whose array is the entry
    contents' and whose body leaves the block in place. -/
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)
/-- Input window 5's staging buffer holds its block at every point, for proof data whose array is the entry
    contents' and whose body leaves the block in place. -/
theorem before1_5_of {c : Dev nD} (dat : Dat τ (Elt F) Unit ℕ (UR sig nD τ) ℕ cfg1 c) (hA : dat.A 5 = V c (Pipeline.arrRef spec1 5))
    (hafter : ∀ t, dat.after 5 t = iblk1 V c 5 t) (t : Fin cfg1.N) (d) : dat.before 5 t d = iblk1 V c 5 t :=
  (dat.before_in_eq_fetched 5 rfl (fun _ => rfl) (fun _ _ _ => rfl) (fun t => by rw [hafter]; unfold Dat.blockOf iblk1; rw [hA]; try rfl) t d).trans
    (by unfold Dat.fetched Dat.blockOf iblk1; rw [hA]; try rfl)
/-- Input window 6's staging buffer holds its block at every point, for proof data whose array is the entry
    contents' and whose body leaves the block in place. -/
theorem before1_6_of {c : Dev nD} (dat : Dat τ (Elt F) Unit ℕ (UR sig nD τ) ℕ cfg1 c) (hA : dat.A 6 = V c (Pipeline.arrRef spec1 6))
    (hafter : ∀ t, dat.after 6 t = iblk1 V c 6 t) (t : Fin cfg1.N) (d) : dat.before 6 t d = iblk1 V c 6 t :=
  (dat.before_in_eq_fetched 6 rfl (fun _ => rfl) (fun _ _ _ => rfl) (fun t => by rw [hafter]; unfold Dat.blockOf iblk1; rw [hA]; try rfl) t d).trans
    (by unfold Dat.fetched Dat.blockOf iblk1; rw [hA]; try rfl)

/-! ## The staging memrefs and the scratch operands -/

/-- Window 0's current staging memref at point `t`. -/
abbrev ms1_0 (t : Fin cfg1.N) : Memref sig .tc .vmem S1x2048x256 .bf16 := win1_0.stage (cfg1.slots t 0)
/-- It is whole. -/
abbrev hs1_0 (t : Fin cfg1.N) : (ms1_0 t).IsWhole := hstage1_0 ((cfg1.slots t 0).cast nbuf1_0)
/-- Window 1's current staging memref at point `t`. -/
abbrev ms1_1 (t : Fin cfg1.N) : Memref sig .tc .vmem S8x8x2x256 .f32 := win1_1.stage (cfg1.slots t 1)
/-- It is whole. -/
abbrev hs1_1 (t : Fin cfg1.N) : (ms1_1 t).IsWhole := hstage1_1 ((cfg1.slots t 1).cast nbuf1_1)
/-- Window 2's current staging memref at point `t`. -/
abbrev ms1_2 (t : Fin cfg1.N) : Memref sig .tc .vmem S1x256 .f32 := win1_2.stage (cfg1.slots t 2)
/-- It is whole. -/
abbrev hs1_2 (t : Fin cfg1.N) : (ms1_2 t).IsWhole := hstage1_2 ((cfg1.slots t 2).cast nbuf1_2)
/-- Window 3's current staging memref at point `t`. -/
abbrev ms1_3 (t : Fin cfg1.N) : Memref sig .tc .vmem S1x256 .f32 := win1_3.stage (cfg1.slots t 3)
/-- It is whole. -/
abbrev hs1_3 (t : Fin cfg1.N) : (ms1_3 t).IsWhole := hstage1_3 ((cfg1.slots t 3).cast nbuf1_3)
/-- Window 4's current staging memref at point `t`. -/
abbrev ms1_4 (t : Fin cfg1.N) : Memref sig .tc .vmem S256x128 .f32 := win1_4.stage (cfg1.slots t 4)
/-- It is whole. -/
abbrev hs1_4 (t : Fin cfg1.N) : (ms1_4 t).IsWhole := hstage1_4 ((cfg1.slots t 4).cast nbuf1_4)
/-- Window 5's current staging memref at point `t`. -/
abbrev ms1_5 (t : Fin cfg1.N) : Memref sig .tc .vmem S1x128 .f32 := win1_5.stage (cfg1.slots t 5)
/-- It is whole. -/
abbrev hs1_5 (t : Fin cfg1.N) : (ms1_5 t).IsWhole := hstage1_5 ((cfg1.slots t 5).cast nbuf1_5)
/-- Window 6's current staging memref at point `t`. -/
abbrev ms1_6 (t : Fin cfg1.N) : Memref sig .tc .vmem S1x128 .f32 := win1_6.stage (cfg1.slots t 6)
/-- It is whole. -/
abbrev hs1_6 (t : Fin cfg1.N) : (ms1_6 t).IsWhole := hstage1_6 ((cfg1.slots t 6).cast nbuf1_6)
/-- Window 7's current staging memref at point `t`. -/
abbrev ms1_7 (t : Fin cfg1.N) : Memref sig .tc .vmem S1x128x2048 .f32 := win1_7.stage (cfg1.slots t 7)
/-- It is whole. -/
abbrev hs1_7 (t : Fin cfg1.N) : (ms1_7 t).IsWhole := hstage1_7 ((cfg1.slots t 7).cast nbuf1_7)
/-- The kernel's two scratch operands, whole scoped buffers. -/
abbrev scM1_0 : Memref sig .tc .vmem S16x2048x128 .f32 := Memref.whole cc1_scratch0
/-- The second one. -/
abbrev scM1_1 : Memref sig .tc .vmem S2x128 .f32 := Memref.whole cc1_scratch1

/-- The scoped buffers of the first kernel, at any contents: the second kernel does not touch them. -/
def others (c : Dev nD) : sProp 𝕄 :=
  iprop((∃ f, (c : Thread nD τ).loc cc0_stg0_0 ↦{fullShare} f) ∗ (∃ f, (c : Thread nD τ).loc cc0_stg0_1 ↦{fullShare} f) ∗ (∃ f, (c : Thread nD τ).loc cc0_stg1_0 ↦{fullShare} f) ∗ (∃ f, (c : Thread nD τ).loc cc0_stg1_1 ↦{fullShare} f) ∗ (∃ f, (c : Thread nD τ).loc cc0_stg2_0 ↦{fullShare} f) ∗ (∃ f, (c : Thread nD τ).loc cc0_stg2_1 ↦{fullShare} f) ∗ (∃ f, (c : Thread nD τ).loc cc0_stg3_0 ↦{fullShare} f) ∗ (∃ f, (c : Thread nD τ).loc cc0_stg3_1 ↦{fullShare} f) ∗ (∃ f, (c : Thread nD τ).loc cc0_stg4_0 ↦{fullShare} f) ∗ (∃ f, (c : Thread nD τ).loc cc0_stg5_0 ↦{fullShare} f) ∗ (∃ f, (c : Thread nD τ).loc cc0_stg6_0 ↦{fullShare} f) ∗ (∃ f, (c : Thread nD τ).loc cc0_stg6_1 ↦{fullShare} f) ∗ (∃ f, (c : Thread nD τ).loc cc0_stg7_0 ↦{fullShare} f) ∗ (∃ f, (c : Thread nD τ).loc cc0_stg7_1 ↦{fullShare} f))

/-- What the launch hands over, with the scratch operands as memrefs owned at some contents; -/
theorem PhiA1_open (c : Dev nD) :
    (Pipeline.ΦA spec1 c : sProp 𝕄)
      ⊢ iprop(others c ∗ (∃ d, owns (c : Thread nD τ) scM1_0 fullShare d) ∗ (∃ d, owns (c : Thread nD τ) scM1_1 fullShare d) ∗ (∃ r, prngReg c r)) := by
  unfold Pipeline.ΦA others; rw [scopedRest1_eq]; simp only [scM1_0, scM1_1, owns_whole]
  iintro ⟨⟨H0, H1, H2, H3, H4, H5, H6, H7, H8, H9, H10, H11, H12, H13, HS0, HS1⟩, Hg⟩
  isplitl [H0 H1 H2 H3 H4 H5 H6 H7 H8 H9 H10 H11 H12 H13]
  · isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    iexact H13
  isplitl [HS0]; · iexact HS0
  isplitl [HS1]; · iexact HS1
  iexact Hg

/-- and the way back. -/
theorem PhiA1_close (c : Dev nD) :
    iprop(others c ∗ (∃ d, owns (c : Thread nD τ) scM1_0 fullShare d) ∗ (∃ d, owns (c : Thread nD τ) scM1_1 fullShare d) ∗ (∃ r, prngReg c r))
      ⊢ (Pipeline.ΦA spec1 c : sProp 𝕄) := by
  unfold Pipeline.ΦA others; rw [scopedRest1_eq]; simp only [scM1_0, scM1_1, owns_whole]
  iintro ⟨⟨H0, H1, H2, H3, H4, H5, H6, H7, H8, H9, H10, H11, H12, H13⟩, HS0, HS1, Hg⟩
  isplitr [Hg]
  · isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [HS0]; · iexact HS0
    iexact HS1
  iexact Hg

end Cert.KernelIdeal.Own

end
-- ==== Proof.KI_Run1.lean ====
/- The second kernel of the program: its body run at one point, in each of its three cases. -/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.UnfoldOut
public import Idealize.ShloMosaic.Lib.WordCmp
public import proofs.«01_k».proof.Proof.KI_Facts1

@[expose] public section

set_option maxRecDepth 16384

noncomputable section

namespace Cert.KernelIdeal.Own

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

/-! ## The body's accesses and values -/

abbrev q1_x : Rect S1x2048x256 := Rect.unit (s := S1x2048x256) ![0, 0, 0] S1x2048x256.size inb_S1x2048x256_S1x2048x256_0_0_0
abbrev q1_st : Rect S8x8x2x256 := Rect.unit (s := S8x8x2x256) ![0, 0, 0, 0] S8x8x2x256.size inb_S8x8x2x256_S8x8x2x256_0_0_0_0
abbrev q1_g : Rect S1x256 := Rect.unit (s := S1x256) ![0, 0] S1x256.size inb_S1x256_S1x256_0_0
abbrev q1_w : Rect S256x128 := Rect.unit (s := S256x128) ![0, 0] S256x128.size inb_S256x128_S256x128_0_0
abbrev q1_h : Rect S1x128 := Rect.unit (s := S1x128) ![0, 0] S1x128.size inb_S1x128_S1x128_0_0
abbrev q1_o : Rect S1x128x2048 := Rect.unit (s := S1x128x2048) ![0, 0, 0] S1x128x2048.size inb_S1x128x2048_S1x128x2048_0_0_0
abbrev q1_s : Rect S2x128 := Rect.unit (s := S2x128) ![0, 0] S2x128.size inb_S2x128_S2x128_0_0
/-- The slab of the scratch a point of the first phase stores, -/
abbrev q1_in (i : grid1.Coords) (h : k1_cond1 i = 1#1) : Rect S16x2048x128 :=
  Rect.unit (s := S16x2048x128) (k1_off1 i) S1x2048x128.size (k1_off1_inb i h)
/-- and the one a point of the second phase reads. -/
abbrev q1_out (i : grid1.Coords) (h : k1_cond4 i = 1#1) : Rect S16x2048x128 :=
  Rect.unit (s := S16x2048x128) (k1_off2 i) S1x2048x128.size (k1_off2_inb i h)

/-- The second layer's pre-activation at one point, from the blocks it reads, -/
def yval (x0 : Vec F S1x2048x256 .bf16) (x1 : Vec F S8x8x2x256 .f32) (x2 : Vec F S1x256 .f32) (x3 : Vec F S1x256 .f32) (x4 : Vec F S256x128 .f32) : FVec F S2048x128 .f32 :=
  k1_pay5 (View.ld x0 q1_x) (View.ld x1 q1_st) (View.ld x2 q1_g) (View.ld x3 q1_g) (View.ld x4 q1_w)
/-- as the slab the scratch keeps. -/
def yslab (x0 : Vec F S1x2048x256 .bf16) (x1 : Vec F S8x8x2x256 .f32) (x2 : Vec F S1x256 .f32) (x3 : Vec F S1x256 .f32) (x4 : Vec F S256x128 .f32) : FVec F S1x2048x128 .f32 :=
  k1_pay6 (View.ld x0 q1_x) (View.ld x1 q1_st) (View.ld x2 q1_g) (View.ld x3 q1_g) (View.ld x4 q1_w)
/-- The running sums after the first point, -/
def sfirst (y : FVec F S2048x128 .f32) : Vec F S2x128 .f32 := View.canon [⟨q1_s, k1_pay2 y⟩]
/-- and after a later one. -/
def snext (y : FVec F S2048x128 .f32) (S : Vec F S2x128 .f32) : Vec F S2x128 .f32 := View.canon [⟨q1_s, k1_pay3 y (View.ld S q1_s)⟩]
/-- What a point of the second phase writes. -/
def oval (S : Vec F S2x128 .f32) (y : FVec F S1x2048x128 .f32) (x5 : Vec F S1x128 .f32) (x6 : Vec F S1x128 .f32) : Vec F S1x128x2048 .f32 :=
  View.canon [⟨q1_o, k1_pay4 (View.ld S q1_s) y (View.ld x5 q1_h) (View.ld x6 q1_h)⟩]

/-- `Y` is `X` with `w` stored through the rectangle `r`. -/
def Stored (X Y : Vec F S16x2048x128 .f32) (r : Rect S16x2048x128) (w : r.shape.Idx → Elt F .f32) : Prop :=
  (∀ x, Y (r.emb x) = w x) ∧ ∀ j, j ∉ (Finset.univ.map r.emb) → Y j = X j

theorem cover1_s (p0 : Vec F S2x128 .f32) (y : S2x128.Idx) : ∃ pc ∈ ([⟨q1_s, p0⟩] : List (View.Piece (Elt F) S2x128 .f32)), y ∈ pc.1.set :=
  View.cover_of_tiled [⟨q1_s, p0⟩] S2x128.size (by rfl) y
theorem cover1_o (p0 : Vec F S1x128x2048 .f32) (y : S1x128x2048.Idx) : ∃ pc ∈ ([⟨q1_o, p0⟩] : List (View.Piece (Elt F) S1x128x2048 .f32)), y ∈ pc.1.set :=
  View.cover_of_tiled [⟨q1_o, p0⟩] S1x128x2048.size (by rfl) y

set_option maxHeartbeats 1000000 in
/-- The first point of the first phase: it stores its slab and starts the running sums. -/
theorem run1_A (c : Dev nD) (E : Set ℕ) (i : grid1.Coords) (arg3 : Memref sig .tc .vmem S1x2048x256 .bf16) (harg3 : arg3.IsWhole) (arg4 : Memref sig .tc .vmem S8x8x2x256 .f32) (harg4 : arg4.IsWhole) (arg5 : Memref sig .tc .vmem S1x256 .f32) (harg5 : arg5.IsWhole) (arg6 : Memref sig .tc .vmem S1x256 .f32) (harg6 : arg6.IsWhole) (arg7 : Memref sig .tc .vmem S256x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128x2048 .f32) (harg10 : arg10.IsWhole) (arg11 : Memref sig .tc .vmem S16x2048x128 .f32) (harg11 : arg11.IsWhole) (arg12 : Memref sig .tc .vmem S2x128 .f32) (harg12 : arg12.IsWhole) (hc0 : cond1_0 i) (hc1 : cond1_1 i) (hc2 : ¬cond1_2 i) (hc3 : ¬cond1_3 i)
    (x0 : Vec F S1x2048x256 .bf16) (x1 : Vec F S8x8x2x256 .f32) (x2 : Vec F S1x256 .f32) (x3 : Vec F S1x256 .f32) (x4 : Vec F S256x128 .f32) (x5 : Vec F S1x128 .f32) (x6 : Vec F S1x128 .f32) (d7 : Vec F S1x128x2048 .f32) (X : Vec F S16x2048x128 .f32) (S : Vec F S2x128 .f32) (K : PUnit → sProp 𝕄) :
    iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare d7 ∗ owns (c : Thread nD τ) arg11 fullShare X ∗ owns (c : Thread nD τ) arg12 fullShare S
        ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare d7 ∗ (∃ Y, ⌜Stored X Y (q1_in i hc0) (yslab x0 x1 x2 x3 x4)⌝ ∗ owns (c : Thread nD τ) arg11 fullShare Y) ∗ owns (c : Thread nD τ) arg12 fullShare (sfirst (yval x0 x1 x2 x3 x4))) -∗ K ⟨⟩))
      ⊢ wp frame (wpE (defs₀ (F := F)) Variants.none c none) E (cc1__stage23 i arg3 harg3 arg4 harg4 arg5 harg5 arg6 harg6 arg7 harg7 arg8 harg8 arg9 harg9 arg10 harg10 arg11 harg11 arg12 harg12) K := by
  simp only [cc1__stage23_eq_skeleton]; unfold cc1__stage23_skel
  simp only [k1_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, Hk⟩
  subst hf0 hf1 hf2 hf3 hf4 hf5 hf6 hf7 hf8 hf9
  sl_exec (disch := first | sl_exact hc0 | sl_exact hc1 | sl_exact hc2 | sl_exact hc3)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists _; isplitr
    swap
    · iexists _; isplitr
      swap; · iexact H8
      ipureintro; rfl
    ipureintro
    exact ⟨fun x => View.read_slice_write_emb _ _ _ (Finset.mem_univ _), fun j hj => View.read_slice_write_of_not_mem _ _ _ _ hj⟩
  iexists _; isplitr
  swap; · iexact H9
  ipureintro
  exact View.read_writes_eq_canon _ _ _ (cover1_s _)

set_option maxHeartbeats 1000000 in
/-- A later point of the first phase: it stores its slab and adds to the running sums. -/
theorem run1_B (c : Dev nD) (E : Set ℕ) (i : grid1.Coords) (arg3 : Memref sig .tc .vmem S1x2048x256 .bf16) (harg3 : arg3.IsWhole) (arg4 : Memref sig .tc .vmem S8x8x2x256 .f32) (harg4 : arg4.IsWhole) (arg5 : Memref sig .tc .vmem S1x256 .f32) (harg5 : arg5.IsWhole) (arg6 : Memref sig .tc .vmem S1x256 .f32) (harg6 : arg6.IsWhole) (arg7 : Memref sig .tc .vmem S256x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128x2048 .f32) (harg10 : arg10.IsWhole) (arg11 : Memref sig .tc .vmem S16x2048x128 .f32) (harg11 : arg11.IsWhole) (arg12 : Memref sig .tc .vmem S2x128 .f32) (harg12 : arg12.IsWhole) (hc0 : cond1_0 i) (hc1 : ¬cond1_1 i) (hc2 : cond1_2 i) (hc3 : ¬cond1_3 i)
    (x0 : Vec F S1x2048x256 .bf16) (x1 : Vec F S8x8x2x256 .f32) (x2 : Vec F S1x256 .f32) (x3 : Vec F S1x256 .f32) (x4 : Vec F S256x128 .f32) (x5 : Vec F S1x128 .f32) (x6 : Vec F S1x128 .f32) (d7 : Vec F S1x128x2048 .f32) (X : Vec F S16x2048x128 .f32) (S : Vec F S2x128 .f32) (K : PUnit → sProp 𝕄) :
    iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare d7 ∗ owns (c : Thread nD τ) arg11 fullShare X ∗ owns (c : Thread nD τ) arg12 fullShare S
        ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare d7 ∗ (∃ Y, ⌜Stored X Y (q1_in i hc0) (yslab x0 x1 x2 x3 x4)⌝ ∗ owns (c : Thread nD τ) arg11 fullShare Y) ∗ owns (c : Thread nD τ) arg12 fullShare (snext (yval x0 x1 x2 x3 x4) S)) -∗ K ⟨⟩))
      ⊢ wp frame (wpE (defs₀ (F := F)) Variants.none c none) E (cc1__stage23 i arg3 harg3 arg4 harg4 arg5 harg5 arg6 harg6 arg7 harg7 arg8 harg8 arg9 harg9 arg10 harg10 arg11 harg11 arg12 harg12) K := by
  simp only [cc1__stage23_eq_skeleton]; unfold cc1__stage23_skel
  simp only [k1_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, Hk⟩
  subst hf0 hf1 hf2 hf3 hf4 hf5 hf6 hf7 hf8 hf9
  sl_exec (disch := first | sl_exact hc0 | sl_exact hc1 | sl_exact hc2 | sl_exact hc3)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists _; isplitr
    swap
    · iexists _; isplitr
      swap; · iexact H8
      ipureintro; rfl
    ipureintro
    exact ⟨fun x => View.read_slice_write_emb _ _ _ (Finset.mem_univ _), fun j hj => View.read_slice_write_of_not_mem _ _ _ _ hj⟩
  iexists _; isplitr
  swap; · iexact H9
  ipureintro
  exact View.read_writes_eq_canon _ _ _ (cover1_s _)

set_option maxHeartbeats 1000000 in
/-- A point of the second phase: it reads its slab and the sums and writes the output block. -/
theorem run1_C (c : Dev nD) (E : Set ℕ) (i : grid1.Coords) (arg3 : Memref sig .tc .vmem S1x2048x256 .bf16) (harg3 : arg3.IsWhole) (arg4 : Memref sig .tc .vmem S8x8x2x256 .f32) (harg4 : arg4.IsWhole) (arg5 : Memref sig .tc .vmem S1x256 .f32) (harg5 : arg5.IsWhole) (arg6 : Memref sig .tc .vmem S1x256 .f32) (harg6 : arg6.IsWhole) (arg7 : Memref sig .tc .vmem S256x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128x2048 .f32) (harg10 : arg10.IsWhole) (arg11 : Memref sig .tc .vmem S16x2048x128 .f32) (harg11 : arg11.IsWhole) (arg12 : Memref sig .tc .vmem S2x128 .f32) (harg12 : arg12.IsWhole) (hc0 : ¬cond1_0 i) (hc3 : cond1_3 i)
    (x0 : Vec F S1x2048x256 .bf16) (x1 : Vec F S8x8x2x256 .f32) (x2 : Vec F S1x256 .f32) (x3 : Vec F S1x256 .f32) (x4 : Vec F S256x128 .f32) (x5 : Vec F S1x128 .f32) (x6 : Vec F S1x128 .f32) (d7 : Vec F S1x128x2048 .f32) (X : Vec F S16x2048x128 .f32) (S : Vec F S2x128 .f32) (K : PUnit → sProp 𝕄) :
    iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare d7 ∗ owns (c : Thread nD τ) arg11 fullShare X ∗ owns (c : Thread nD τ) arg12 fullShare S
        ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare (oval S (View.ld X (q1_out i hc3)) x5 x6) ∗ owns (c : Thread nD τ) arg11 fullShare X ∗ owns (c : Thread nD τ) arg12 fullShare S) -∗ K ⟨⟩))
      ⊢ wp frame (wpE (defs₀ (F := F)) Variants.none c none) E (cc1__stage23 i arg3 harg3 arg4 harg4 arg5 harg5 arg6 harg6 arg7 harg7 arg8 harg8 arg9 harg9 arg10 harg10 arg11 harg11 arg12 harg12) K := by
  simp only [cc1__stage23_eq_skeleton]; unfold cc1__stage23_skel
  simp only [k1_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, Hk⟩
  subst hf0 hf1 hf2 hf3 hf4 hf5 hf6 hf7 hf8 hf9
  sl_exec (disch := first | sl_exact hc0 | sl_exact hc3)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists _; isplitr
    swap; · iexact H7
    ipureintro
    exact View.read_writes_eq_canon _ _ _ (cover1_o _)
  isplitl [H8]
  · iexists f8; isplitr; · ipureintro; rfl
    iexact H8
  iexists f9; isplitr; · ipureintro; rfl
  iexact H9

end Cert.KernelIdeal.Own

end
-- ==== Proof.KI_Data1.lean ====
/- The second kernel of the program: what its scratch holds from point to point, and its body at every point. -/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.UnfoldOut
public import Idealize.ShloMosaic.Lib.WordCmp
public import proofs.«01_k».proof.Proof.KI_Run1

@[expose] public section

set_option maxRecDepth 16384

noncomputable section

namespace Cert.KernelIdeal.Own

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

/-! ## The stores' and loads' offsets over the grid -/

/-- The slab a point of the first phase stores is the one of its number, -/
theorem off1_eq : ∀ t : Fin cfg1.N, k1_off1 (grid1.coords t) = ![t.val % 16, 0, 0] :=
  (by decide +kernel : ∀ t : Fin grid1.N, k1_off1 (grid1.coords t) = ![t.val % 16, 0, 0])
/-- and so is the slab a point of the second phase reads. -/
theorem off2_eq : ∀ t : Fin cfg1.N, k1_off2 (grid1.coords t) = ![t.val % 16, 0, 0] :=
  (by decide +kernel : ∀ t : Fin grid1.N, k1_off2 (grid1.coords t) = ![t.val % 16, 0, 0])

/-- Point number `n` of the grid. -/
def pt1 (n : Nat) : Fin cfg1.N := ⟨n % 32, Nat.lt_of_lt_of_eq (Nat.mod_lt _ (by decide)) N_1.symm⟩
/-- A point is the point of its number. -/
theorem pt1_val (t : Fin cfg1.N) : pt1 t.val = t :=
  Fin.ext (Nat.mod_eq_of_lt (Nat.lt_of_lt_of_eq t.isLt N_1))

variable (V : (c : Dev nD) → (b : Ref sig .tc) → Buf (Elt F) ((c : Thread nD τ).loc b))

/-! ## What the scratch buffers hold -/

/-- The second layer's pre-activation at point `t`, -/
def yAt (c : Dev nD) (t : Fin cfg1.N) : FVec F S2048x128 .f32 :=
  yval (iblk1 V c 0 t) (iblk1 V c 1 t) (iblk1 V c 2 t) (iblk1 V c 3 t) (iblk1 V c 4 t)
/-- and as a slab. -/
def ySlab (c : Dev nD) (t : Fin cfg1.N) : FVec F S1x2048x128 .f32 :=
  yslab (iblk1 V c 0 t) (iblk1 V c 1 t) (iblk1 V c 2 t) (iblk1 V c 3 t) (iblk1 V c 4 t)
/-- The running sums after point `n` of the first phase. -/
def sumAt (c : Dev nD) : Nat → Vec F S2x128 .f32
  | 0 => sfirst (yAt V c (pt1 0))
  | k + 1 => snext (yAt V c (pt1 (k + 1))) (sumAt c k)

/-- The scratch holds the slabs of the first `n` points of the first phase. -/
def Held (c : Dev nD) (n : Nat) (X : Vec F S16x2048x128 .f32) : Prop :=
  ∀ k, k < 16 → k < n → ∀ (x : S1x2048x128.Idx) (y : S16x2048x128.Idx),
    (∀ a, (y a).val = (![k, 0, 0] : Fin 3 → Nat) a + (x a).val) → X y = ySlab V c (pt1 k) x

/-- A point of the first phase adds its slab to those held. -/
theorem Held.step (c : Dev nD) (t : Fin cfg1.N) (ht : t.val < 16) (h : k1_cond1 (grid1.coords t) = 1#1)
    {X Y : Vec F S16x2048x128 .f32} (hX : Held V c t.val X)
    (hY : Stored X Y (q1_in (grid1.coords t) h) (ySlab V c t)) : Held V c (t.val + 1) Y := by
  intro k hk hkt x y hxy
  have ho := off1_eq t
  rw [Nat.mod_eq_of_lt ht] at ho
  by_cases hkeq : k = t.val
  · subst hkeq
    have hy : (q1_in (grid1.coords t) h).emb x = y := funext fun a => Fin.ext (by
      show k1_off1 (grid1.coords t) a + 1 * (x a).val = (y a).val
      rw [hxy a, ho, Nat.one_mul])
    rw [← hy, hY.1 x, pt1_val]
  · rw [hY.2 y, hX k hk (by omega) x y hxy]
    rw [Rect.map_emb_univ, Rect.mem_set_unit]
    intro hall
    have h0 := hall 0
    rw [ho] at h0
    have hy0 := hxy 0
    have hx0 : (x 0).val < 1 := (x 0).isLt
    simp only [Matrix.cons_val_zero] at h0 hy0
    omega

/-- With all sixteen slabs held, a point of the second phase reads the one of its number. -/
theorem Held.read (c : Dev nD) (t : Fin cfg1.N) (ht : 16 ≤ t.val) (h : k1_cond4 (grid1.coords t) = 1#1)
    {X : Vec F S16x2048x128 .f32} {n : Nat} (hn : 16 ≤ n) (hX : Held V c n X) :
    View.ld X (q1_out (grid1.coords t) h) = ySlab V c (pt1 (t.val % 16)) := by
  funext x
  have hm : t.val % 16 < 16 := Nat.mod_lt _ (by decide)
  refine hX (t.val % 16) hm (by omega) x _ fun a => ?_
  show k1_off2 (grid1.coords t) a + 1 * (x a).val = _
  rw [off2_eq t, Nat.one_mul]

/-- Once the first phase is over nothing more is held or lost. -/
theorem Held.keep (c : Dev nD) {n n' : Nat} (hn : 16 ≤ n) {X : Vec F S16x2048x128 .f32}
    (hX : Held V c n X) : Held V c n' X := fun k hk _ => hX k hk (by omega)

/-- The invariant before point `n`: the slabs held so far, the running sums, the rest untouched. -/
def Phi1 (c : Dev nD) (n : Nat) : sProp 𝕄 :=
  iprop(others c ∗ (∃ X, ⌜Held V c n X⌝ ∗ owns (c : Thread nD τ) scM1_0 fullShare X)
    ∗ (∃ S, ⌜n ≠ 0 → S = sumAt V c (min (n - 1) 15)⌝ ∗ owns (c : Thread nD τ) scM1_1 fullShare S)
    ∗ (∃ r, prngReg c r))

/-! ## The pipeline's proof data -/

/-- The proof data of the second pipeline: inputs at their blocks, the output of the second phase from the held sums and slab. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => iblk1 V c 6 t
    | ⟨7, _⟩ => oval (sumAt V c 15) (ySlab V c (pt1 (t.val % 16))) (iblk1 V c 5 t) (iblk1 V c 6 t)
  Φ t := Phi1 V c t.val
  q _ := fullShare
  owed _ := 0

/-- The proof data's arrays are the region-entry contents. -/
theorem A_eq1 (c : Dev nD) (w : Fin cfg1.W) : (dat1 V c).A w = V c (Pipeline.arrRef spec1 w) := by
  dsimp only [dat1]

/-! What the body leaves, window by window. -/

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = iblk1 V c 6 t := by dsimp only [dat1]
theorem after1_7 (c : Dev nD) (t : Fin cfg1.N) : (dat1 V c).after 7 t = oval (sumAt V c 15) (ySlab V c (pt1 (t.val % 16))) (iblk1 V c 5 t) (iblk1 V c 6 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d
theorem before1_5 (c : Dev nD) (t : Fin cfg1.N) (d) : (dat1 V c).before 5 t d = iblk1 V c 5 t :=
  before1_5_of V (dat1 V c) (A_eq1 V c 5) (after1_5 V c) t d
theorem before1_6 (c : Dev nD) (t : Fin cfg1.N) (d) : (dat1 V c).before 6 t d = iblk1 V c 6 t :=
  before1_6_of V (dat1 V c) (A_eq1 V c 6) (after1_6 V c) t d

/-! ## The body obligation, at a generic point -/

/-- What the body is called with at point `t`, -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d))
    ∗ (∃ d, owns (c : Thread nD τ) (ms1_5 t) fullShare ((dat1 V c).before 5 t d))
    ∗ (∃ d, owns (c : Thread nD τ) (ms1_6 t) fullShare ((dat1 V c).before 6 t d))
    ∗ (∃ d, owns (c : Thread nD τ) (ms1_7 t) fullShare ((dat1 V c).before 7 t d)))

/-- and what it returns. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t
    ∗ (dat1 V c).leavesExact 4 t
    ∗ (dat1 V c).leavesExact 5 t
    ∗ (dat1 V c).leavesExact 6 t
    ∗ (dat1 V c).leavesExact 7 t)

/-! An input's buffer is left at its block. -/

theorem leaves1_0 (c : Dev nD) (t : Fin cfg1.N) :
    (dat1 V c).leavesExact 0 t = owns (c : Thread nD τ) (ms1_0 t) fullShare (iblk1 V c 0 t) := by
  rw [show (dat1 V c).leavesExact 0 t = owns (c : Thread nD τ) (ms1_0 t) fullShare ((dat1 V c).after 0 t) from by
    unfold Dat.leavesExact; rw [liveAt1_0 t], after1_0]
theorem leaves1_1 (c : Dev nD) (t : Fin cfg1.N) :
    (dat1 V c).leavesExact 1 t = owns (c : Thread nD τ) (ms1_1 t) fullShare (iblk1 V c 1 t) := by
  rw [show (dat1 V c).leavesExact 1 t = owns (c : Thread nD τ) (ms1_1 t) fullShare ((dat1 V c).after 1 t) from by
    unfold Dat.leavesExact; rw [liveAt1_1 t], after1_1]
theorem leaves1_2 (c : Dev nD) (t : Fin cfg1.N) :
    (dat1 V c).leavesExact 2 t = owns (c : Thread nD τ) (ms1_2 t) fullShare (iblk1 V c 2 t) := by
  rw [show (dat1 V c).leavesExact 2 t = owns (c : Thread nD τ) (ms1_2 t) fullShare ((dat1 V c).after 2 t) from by
    unfold Dat.leavesExact; rw [liveAt1_2 t], after1_2]
theorem leaves1_3 (c : Dev nD) (t : Fin cfg1.N) :
    (dat1 V c).leavesExact 3 t = owns (c : Thread nD τ) (ms1_3 t) fullShare (iblk1 V c 3 t) := by
  rw [show (dat1 V c).leavesExact 3 t = owns (c : Thread nD τ) (ms1_3 t) fullShare ((dat1 V c).after 3 t) from by
    unfold Dat.leavesExact; rw [liveAt1_3 t], after1_3]
theorem leaves1_4 (c : Dev nD) (t : Fin cfg1.N) :
    (dat1 V c).leavesExact 4 t = owns (c : Thread nD τ) (ms1_4 t) fullShare (iblk1 V c 4 t) := by
  rw [show (dat1 V c).leavesExact 4 t = owns (c : Thread nD τ) (ms1_4 t) fullShare ((dat1 V c).after 4 t) from by
    unfold Dat.leavesExact; rw [liveAt1_4 t], after1_4]
theorem leaves1_5 (c : Dev nD) (t : Fin cfg1.N) :
    (dat1 V c).leavesExact 5 t = owns (c : Thread nD τ) (ms1_5 t) fullShare (iblk1 V c 5 t) := by
  rw [show (dat1 V c).leavesExact 5 t = owns (c : Thread nD τ) (ms1_5 t) fullShare ((dat1 V c).after 5 t) from by
    unfold Dat.leavesExact; rw [liveAt1_5 t], after1_5]
theorem leaves1_6 (c : Dev nD) (t : Fin cfg1.N) :
    (dat1 V c).leavesExact 6 t = owns (c : Thread nD τ) (ms1_6 t) fullShare (iblk1 V c 6 t) := by
  rw [show (dat1 V c).leavesExact 6 t = owns (c : Thread nD τ) (ms1_6 t) fullShare ((dat1 V c).after 6 t) from by
    unfold Dat.leavesExact; rw [liveAt1_6 t], after1_6]

set_option maxHeartbeats 1000000 in
/-- The body at the first point. -/
theorem sound_body1_A (c : Dev nD) (t : Fin cfg1.N) (ht : t.val = 0) :
    bodyPre1 V c t ⊢ wp frame (wpE (defs₀ (F := F)) Variants.none c none) Set.univ (bodyAt1 t) (fun _ => bodyPost1 V c t) := by
  have hN : t.val < 32 := Nat.lt_of_lt_of_eq t.isLt N_1
  have h0 : t.val < 16 := by omega
  have c0 := (hcond1_0 t).mpr h0
  have c1 := (hcond1_1 t).mpr (by omega)
  have c2 : ¬cond1_2 (grid1.coords t) := fun h => by have := (hcond1_2 t).mp h; omega
  have c3 : ¬cond1_3 (grid1.coords t) := fun h => by have := (hcond1_3 t).mp h; omega
  unfold bodyPre1 bodyPost1 bodyAt1
  simp only [before1_0, before1_1, before1_2, before1_3, before1_4, before1_5, before1_6]
  rw [show (dat1 V c).owesAt () t.succ = (dat1 V c).owesAt () t.castSucc from rfl,
    show (dat1 V c).Φ t.succ = Phi1 V c (t.val + 1) from rfl, show (dat1 V c).Φ t.castSucc = Phi1 V c t.val from rfl]
  unfold Phi1
  rw [leaves1_0, leaves1_1, leaves1_2, leaves1_3, leaves1_4, leaves1_5, leaves1_6]
  rw [Dat.leavesExact_idle (dat1 V c) 7 t (idleAt1_7_A t c0 c1 c2 c3) (noFlush1_7_A t c0 c1 c2 c3)]
  iintro ⟨⟨Hx, ⟨%X, %hX, HS0⟩, ⟨%S, %hS, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (run1_A c Set.univ (grid1.coords t) _ _ _ _ _ _ _ _ _ _ _ _ _ _ _ _ _ _ _ _ c0 c1 c2 c3 (iblk1 V c 0 t) (iblk1 V c 1 t) (iblk1 V c 2 t) (iblk1 V c 3 t) (iblk1 V c 4 t) (iblk1 V c 5 t) (iblk1 V c 6 t) ((dat1 V c).before 7 t d7) X S _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [HS0]; · iexact HS0
  isplitl [HS1]; · iexact HS1
  iintro ⟨H0, H1, H2, H3, H4, H5, H6, H7, ⟨%Y, %hY, HS0⟩, HS1⟩
  isplitl [Hx HS0 HS1 Hg]
  · isplitl [Hx]; · iexact Hx
    isplitl [HS0]
    · iexists Y; isplitr
      · ipureintro; exact Held.step V c t h0 _ hX hY
      iexact HS0
    isplitl [HS1]
    · iexists _; isplitr
      swap; · iexact HS1
      ipureintro; intro _
      rw [show min (t.val + 1 - 1) 15 = 0 from by omega]
      show sfirst (yAt V c t) = sfirst (yAt V c (pt1 0))
      rw [show (pt1 0) = t from by rw [← ht, pt1_val]]
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexists _; iexact H7

set_option maxHeartbeats 1000000 in
/-- The body at a later point of the first phase. -/
theorem sound_body1_B (c : Dev nD) (t : Fin cfg1.N) (h0 : t.val < 16) (ht : t.val ≠ 0) :
    bodyPre1 V c t ⊢ wp frame (wpE (defs₀ (F := F)) Variants.none c none) Set.univ (bodyAt1 t) (fun _ => bodyPost1 V c t) := by
  have hN : t.val < 32 := Nat.lt_of_lt_of_eq t.isLt N_1
  have c0 := (hcond1_0 t).mpr h0
  have c1 : ¬cond1_1 (grid1.coords t) := fun h => by have := (hcond1_1 t).mp h; omega
  have c2 := (hcond1_2 t).mpr (by omega)
  have c3 : ¬cond1_3 (grid1.coords t) := fun h => by have := (hcond1_3 t).mp h; omega
  unfold bodyPre1 bodyPost1 bodyAt1
  simp only [before1_0, before1_1, before1_2, before1_3, before1_4, before1_5, before1_6]
  rw [show (dat1 V c).owesAt () t.succ = (dat1 V c).owesAt () t.castSucc from rfl,
    show (dat1 V c).Φ t.succ = Phi1 V c (t.val + 1) from rfl, show (dat1 V c).Φ t.castSucc = Phi1 V c t.val from rfl]
  unfold Phi1
  rw [leaves1_0, leaves1_1, leaves1_2, leaves1_3, leaves1_4, leaves1_5, leaves1_6]
  rw [Dat.leavesExact_idle (dat1 V c) 7 t (idleAt1_7_B t c0 c1 c2 c3) (noFlush1_7_B t c0 c1 c2 c3)]
  iintro ⟨⟨Hx, ⟨%X, %hX, HS0⟩, ⟨%S, %hS, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (run1_B c Set.univ (grid1.coords t) _ _ _ _ _ _ _ _ _ _ _ _ _ _ _ _ _ _ _ _ c0 c1 c2 c3 (iblk1 V c 0 t) (iblk1 V c 1 t) (iblk1 V c 2 t) (iblk1 V c 3 t) (iblk1 V c 4 t) (iblk1 V c 5 t) (iblk1 V c 6 t) ((dat1 V c).before 7 t d7) X S _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [HS0]; · iexact HS0
  isplitl [HS1]; · iexact HS1
  iintro ⟨H0, H1, H2, H3, H4, H5, H6, H7, ⟨%Y, %hY, HS0⟩, HS1⟩
  isplitl [Hx HS0 HS1 Hg]
  · isplitl [Hx]; · iexact Hx
    isplitl [HS0]
    · iexists Y; isplitr
      · ipureintro; exact Held.step V c t h0 _ hX hY
      iexact HS0
    isplitl [HS1]
    · iexists _; isplitr
      swap; · iexact HS1
      ipureintro; intro _
      rw [hS ht, show min (t.val + 1 - 1) 15 = (t.val - 1) + 1 from by omega, show min (t.val - 1) 15 = t.val - 1 from by omega]
      show snext (yAt V c t) _ = snext (yAt V c (pt1 (t.val - 1 + 1))) _
      rw [show (pt1 (t.val - 1 + 1)) = t from by rw [show t.val - 1 + 1 = t.val from by omega, pt1_val]]
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexists _; iexact H7

set_option maxHeartbeats 1000000 in
/-- The body at a point of the second phase. -/
theorem sound_body1_C (c : Dev nD) (t : Fin cfg1.N) (h3 : 16 ≤ t.val) :
    bodyPre1 V c t ⊢ wp frame (wpE (defs₀ (F := F)) Variants.none c none) Set.univ (bodyAt1 t) (fun _ => bodyPost1 V c t) := by
  have hN : t.val < 32 := Nat.lt_of_lt_of_eq t.isLt N_1
  have c0 : ¬cond1_0 (grid1.coords t) := fun h => by have := (hcond1_0 t).mp h; omega
  have c3 := (hcond1_3 t).mpr h3
  unfold bodyPre1 bodyPost1 bodyAt1
  simp only [before1_0, before1_1, before1_2, before1_3, before1_4, before1_5, before1_6]
  rw [show (dat1 V c).owesAt () t.succ = (dat1 V c).owesAt () t.castSucc from rfl,
    show (dat1 V c).Φ t.succ = Phi1 V c (t.val + 1) from rfl, show (dat1 V c).Φ t.castSucc = Phi1 V c t.val from rfl]
  unfold Phi1
  rw [leaves1_0, leaves1_1, leaves1_2, leaves1_3, leaves1_4, leaves1_5, leaves1_6]
  rw [show (dat1 V c).leavesExact 7 t = owns (c : Thread nD τ) (ms1_7 t) fullShare ((dat1 V c).after 7 t) from by
    unfold Dat.leavesExact; rw [liveAt1_7_C t c0 c3], after1_7]
  iintro ⟨⟨Hx, ⟨%X, %hX, HS0⟩, ⟨%S, %hS, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
  have hS' : S = sumAt V c 15 := by
    rw [hS (by omega), show min (t.val - 1) 15 = 15 from by omega]
  subst hS'
  iapply (run1_C c Set.univ (grid1.coords t) _ _ _ _ _ _ _ _ _ _ _ _ _ _ _ _ _ _ _ _ c0 c3 (iblk1 V c 0 t) (iblk1 V c 1 t) (iblk1 V c 2 t) (iblk1 V c 3 t) (iblk1 V c 4 t) (iblk1 V c 5 t) (iblk1 V c 6 t) ((dat1 V c).before 7 t d7) X (sumAt V c 15) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [HS0]; · iexact HS0
  isplitl [HS1]; · iexact HS1
  rw [Held.read V c t h3 c3 h3 hX]
  iintro ⟨H0, H1, H2, H3, H4, H5, H6, H7, HS0, HS1⟩
  isplitl [Hx HS0 HS1 Hg]
  · isplitl [Hx]; · iexact Hx
    isplitl [HS0]
    · iexists X; isplitr
      · ipureintro; exact Held.keep V c h3 hX
      iexact HS0
    isplitl [HS1]
    · iexists _; isplitr
      swap; · iexact HS1
      ipureintro; intro _
      rw [show min (t.val + 1 - 1) 15 = 15 from by omega]
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- The body at any point. -/
theorem sound_body1 (c : Dev nD) (t : Fin cfg1.N) :
    bodyPre1 V c t ⊢ wp frame (wpE (defs₀ (F := F)) Variants.none c none) Set.univ (bodyAt1 t) (fun _ => bodyPost1 V c t) := by
  by_cases h : t.val < 16
  · by_cases h' : t.val = 0
    · exact sound_body1_A V c t h'
    · exact sound_body1_B V c t h h'
  · exact sound_body1_C V c t (by omega)

/-- The body table's row at point `t`'s slots is the body as `bodyAt1` spells it. -/
theorem defs₀_row1 (t : Fin cfg1.N) :
    defs₀ (F := F) .tc cfg1.body (cfg1.bodyArgs t (cfg1.slots t)) = bodyAt1 t := by
  unfold defs₀; rw [Defs.onTc_tc]

/-- The library's body obligation, at every point. -/
theorem body_obligation1 (c : Dev nD) : BodyObligation (dat1 (F := F) V c) (defs₀ (F := F)) Variants.none () Set.univ := fun t => by
  rw [bigSep_W1, bigSep_W1, defs₀_row1]
  exact triple_restated (sound_body1 V c t) rfl .rfl fun _ => .rfl

/-- What the launch hands the region is the invariant before the first point. -/
theorem hin1 (c : Dev nD) : Pipeline.ΦA spec1 c ⊢ (dat1 V c).Φ 0 := by
  refine (PhiA1_open c).trans ?_
  rw [show (dat1 V c).Φ 0 = Phi1 V c 0 from rfl]; unfold Phi1
  iintro ⟨Hx, ⟨%X, HS0⟩, ⟨%S, HS1⟩, Hg⟩
  isplitl [Hx]; · iexact Hx
  isplitl [HS0]
  · iexists X; isplitr
    · ipureintro; intro k _ hk; exact absurd hk (Nat.not_lt_zero k)
    iexact HS0
  isplitl [HS1]
  · iexists S; isplitr
    · ipureintro; intro h; exact absurd rfl h
    iexact HS1
  iexact Hg

/-- After the last point the invariant gives back what the launch handed over. -/
theorem hout1 (c : Dev nD) : (dat1 V c).Φ (Fin.last cfg1.N) ⊢ Pipeline.ΦA spec1 c := by
  rw [show (dat1 V c).Φ (Fin.last cfg1.N) = Phi1 V c (Fin.last cfg1.N).val from rfl]; unfold Phi1
  iintro H
  iapply (PhiA1_close c)
  icases H with ⟨Hx, ⟨%X, %hX, HS0⟩, ⟨%S, %hS, HS1⟩, Hg⟩
  isplitl [Hx]; · iexact Hx
  isplitl [HS0]; · iexists X; iexact HS0
  isplitl [HS1]; · iexists S; iexact HS1
  iexact Hg

end Cert.KernelIdeal.Own

end
-- ==== Proof.KI_Run.lean ====
/- The program run end to end: its host stretch and its two kernels, from the launch to the return. -/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.UnfoldOut
public import Idealize.ShloMosaic.Lib.WordCmp
public import proofs.«01_k».proof.Proof.KI_Region0
public import proofs.«01_k».proof.Proof.KI_Data1

@[expose] public section

set_option maxRecDepth 16384

noncomputable section

namespace Cert.KernelIdeal.Own

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-! # The run: @main's segments from the launch to the return -/

/-- @main's argument arrays, as TensorCore references: what the frame claim reads back. -/
abbrev argRefs : List (Ref sig .tc) := [main_arg0, main_arg1, main_arg2, main_arg3, main_arg4, main_arg5, main_arg6, main_arg7, main_arg8, main_arg9, main_arg10, main_arg11]

/-! ## The host stretches: none allocates a buffer, and each lists the references its operations write, in order,
    so that a reference absent from the list keeps its contents across the stretch -/

/-- No operation of `hostOps0` allocates a buffer. -/
theorem hostOps0_fresh : (hostOps0 : List (HloOp τ sig (Elt F))).Forall fun op => op.fresh = ∅ := by
  simp only [List.Forall]; repeat' constructor
/-- The reference each operation of `hostOps0` writes, in order. -/
abbrev hostOps0_W : List (Ref sig .tc) := [main_v0, main_v1, main_v2, main_v3, main_v4, main_v5, main_v6, main_v7, main_v8, main_v9]
theorem hostOps0_writes : (hostOps0 : List (HloOp τ sig (Elt F))).Forall fun op => op.writes ⊆ (hostOps0_W.map (Proc.devRef (τ := τ) .tc)).toFinset :=
  StableHlo.forall_writes_sub_of_map rfl
/-- `hostOps0` writes none of the argument arrays (checked: each argument against each reference it writes). -/
theorem hostOps0_args : ∀ a ∈ argRefs, a ∉ hostOps0_W := ListAll.forall_mem_of_all_decide (by decide +kernel)

/-! ## The buffer contents at each segment boundary: a fold through @main, and what each item leaves unchanged -/

/-- Core `c`'s buffers at launch. -/
abbrev W0 : Dev nD → Valuation τ sig (Elt F) := fun c b => (s₀ m ρ).mem ((c : Dev nD), b)
theorem W0_args (c : Dev nD) : ∀ a ∈ argRefs, W0 m ρ c (Proc.devRef .tc a) = m ((c : Thread nD τ).loc a) := fun _ _ => rfl
/-- After `hostOps0` (region 0's entry). -/
abbrev W1 : Dev nD → Valuation τ sig (Elt F) := fun c => StableHlo.after hostOps0 (W0 m ρ c)
/-- A reference `hostOps0` does not write keeps its contents across it. -/
theorem W1_of (c : Dev nD) (r : Ref sig .tc) (h : r ∉ hostOps0_W) : W1 m ρ c (Proc.devRef .tc r) = W0 m ρ c (Proc.devRef .tc r) :=
  StableHlo.after_of_writes_sub hostOps0 _ hostOps0_writes h
theorem W1_args (c : Dev nD) : ∀ a ∈ argRefs, W1 m ρ c (Proc.devRef .tc a) = m ((c : Thread nD τ).loc a) :=
  fun a ha => (W1_of m ρ c a (hostOps0_args a ha)).trans (W0_args m ρ c a ha)
/-- The same read at the TensorCore's references (what region 0's proof data take). -/
abbrev V1 : (c : Dev nD) → (b : Ref sig .tc) → Buf (Elt F) ((c : Thread nD τ).loc b) := fun c b => W1 m ρ c b
/-- At region 0's exit: its arrays at what the pipeline leaves (the inputs as entered, each output's write-backs
    folded: `Dat.arrAt … N`), every other buffer as entered (region 1's entry). -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
/-- A reference that is none of region 0's OUTPUT arrays keeps its entry contents across it: an input window's
    array is never written back (`Dat.arrAt_in`, `A_eq0`); any other buffer is left as is. -/
theorem W2_of (c : Dev nD) (r : Ref sig .tc) (h : ∀ w : Fin cfg0.W, Pipeline.arrRef spec0 w = r → (cfg0.win w).isOut = false) :
    W2 m ρ c (Proc.devRef .tc r) = W1 m ρ c (Proc.devRef .tc r) := by
  by_cases hw : ∃ w : Fin cfg0.W, Pipeline.arrRef spec0 w = r
  · obtain ⟨w, rfl⟩ := hw
    exact (W2_arr m ρ c w).trans (((dat0 (V1 m ρ) c).arrAt_in w (h w rfl) _).trans (A_eq0 (V1 m ρ) c w))
  · exact W2_of_ne m ρ c r fun w e => hw ⟨w, e⟩
/-- Every argument among region 0's arrays is an input window's (checked: each argument against each window). -/
theorem argsIn0 : ∀ a ∈ argRefs, ∀ w : Fin cfg0.W, Pipeline.arrRef spec0 w = a → (cfg0.win w).isOut = false :=
  ListAll.forall_mem_of_all_decide (by decide +kernel)
theorem W2_args (c : Dev nD) : ∀ a ∈ argRefs, W2 m ρ c (Proc.devRef .tc a) = m ((c : Thread nD τ).loc a) :=
  fun a ha => (W2_of m ρ c a (argsIn0 a ha)).trans (W1_args m ρ c a ha)
/-- The same read at the TensorCore's references (region 0's exit contents). -/
abbrev V2 : (c : Dev nD) → (b : Ref sig .tc) → Buf (Elt F) ((c : Thread nD τ).loc b) := fun c b => W2 m ρ c b
/-- At region 0's exit each of its arrays holds what the pipeline leaves (`hF0`) and every other buffer what it
    held at entry (`hrest0`): the two hypotheses of Lib/Pipeline/RegionsLoop.lean `unscopedBufs_of_arrays`. -/
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- At region 1's exit: its arrays at what the pipeline leaves (the inputs as entered, each output's write-backs
    folded: `Dat.arrAt … N`), every other buffer as entered (region 2's entry). -/
def W3 (c : Dev nD) : Valuation τ sig (Elt F) :=
  Pipeline.withArrays spec1 c (W2 m ρ c) fun w => (dat1 (V2 m ρ) c).arrAt w cfg1.N
theorem W3_arr (c : Dev nD) (w : Fin cfg1.W) :
    W3 m ρ c (Proc.devRef .tc (Pipeline.arrRef spec1 w)) = (dat1 (V2 m ρ) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m ρ c (Proc.devRef .tc b) = W2 m ρ c (Proc.devRef .tc b) := by
  unfold W3; exact Pipeline.withArrays_of_ne spec1 c _ _ b hb
/-- A reference that is none of region 1's OUTPUT arrays keeps its entry contents across it: an input window's
    array is never written back (`Dat.arrAt_in`, `A_eq1`); any other buffer is left as is. -/
theorem W3_of (c : Dev nD) (r : Ref sig .tc) (h : ∀ w : Fin cfg1.W, Pipeline.arrRef spec1 w = r → (cfg1.win w).isOut = false) :
    W3 m ρ c (Proc.devRef .tc r) = W2 m ρ c (Proc.devRef .tc r) := by
  by_cases hw : ∃ w : Fin cfg1.W, Pipeline.arrRef spec1 w = r
  · obtain ⟨w, rfl⟩ := hw
    exact (W3_arr m ρ c w).trans (((dat1 (V2 m ρ) c).arrAt_in w (h w rfl) _).trans (A_eq1 (V2 m ρ) c w))
  · exact W3_of_ne m ρ c r fun w e => hw ⟨w, e⟩
/-- Every argument among region 1's arrays is an input window's (checked: each argument against each window). -/
theorem argsIn1 : ∀ a ∈ argRefs, ∀ w : Fin cfg1.W, Pipeline.arrRef spec1 w = a → (cfg1.win w).isOut = false :=
  ListAll.forall_mem_of_all_decide (by decide +kernel)
theorem W3_args (c : Dev nD) : ∀ a ∈ argRefs, W3 m ρ c (Proc.devRef .tc a) = m ((c : Thread nD τ).loc a) :=
  fun a ha => (W3_of m ρ c a (argsIn1 a ha)).trans (W2_args m ρ c a ha)
/-- The same read at the TensorCore's references (region 1's exit contents). -/
abbrev V3 : (c : Dev nD) → (b : Ref sig .tc) → Buf (Elt F) ((c : Thread nD τ).loc b) := fun c b => W3 m ρ c b
/-- At region 1's exit each of its arrays holds what the pipeline leaves (`hF1`) and every other buffer what it
    held at entry (`hrest1`): the two hypotheses of Lib/Pipeline/RegionsLoop.lean `unscopedBufs_of_arrays`. -/
theorem hF1 (c : Dev nD) (w : Fin cfg1.W) : (dat1 (V2 m ρ) c).arrAt w cfg1.N = V3 m ρ c (Pipeline.arrRef spec1 w) :=
  (W3_arr m ρ c w).symm
theorem hrest1 (c : Dev nD) : ∀ b, b ∉ Finset.univ.image (Pipeline.arrRef spec1) → V3 m ρ c b = V2 m ρ c b :=
  fun b hb => W3_of_ne m ρ c b fun w e => hb (Finset.mem_image.mpr ⟨w, Finset.mem_univ _, e⟩)

/-! ### The arguments end as launched: no host stretch writes one and no region may change one (a region reads it
    through an input window or bypasses it) -/

theorem W3_main_arg0 (c : Dev nD) : W3 m ρ c (Proc.devRef .tc main_arg0) = m ((c : Thread nD τ).loc main_arg0) :=
  W3_args m ρ c main_arg0 (by decide)
theorem W3_main_arg1 (c : Dev nD) : W3 m ρ c (Proc.devRef .tc main_arg1) = m ((c : Thread nD τ).loc main_arg1) :=
  W3_args m ρ c main_arg1 (by decide)
theorem W3_main_arg2 (c : Dev nD) : W3 m ρ c (Proc.devRef .tc main_arg2) = m ((c : Thread nD τ).loc main_arg2) :=
  W3_args m ρ c main_arg2 (by decide)
theorem W3_main_arg3 (c : Dev nD) : W3 m ρ c (Proc.devRef .tc main_arg3) = m ((c : Thread nD τ).loc main_arg3) :=
  W3_args m ρ c main_arg3 (by decide)
theorem W3_main_arg4 (c : Dev nD) : W3 m ρ c (Proc.devRef .tc main_arg4) = m ((c : Thread nD τ).loc main_arg4) :=
  W3_args m ρ c main_arg4 (by decide)
theorem W3_main_arg5 (c : Dev nD) : W3 m ρ c (Proc.devRef .tc main_arg5) = m ((c : Thread nD τ).loc main_arg5) :=
  W3_args m ρ c main_arg5 (by decide)
theorem W3_main_arg6 (c : Dev nD) : W3 m ρ c (Proc.devRef .tc main_arg6) = m ((c : Thread nD τ).loc main_arg6) :=
  W3_args m ρ c main_arg6 (by decide)
theorem W3_main_arg7 (c : Dev nD) : W3 m ρ c (Proc.devRef .tc main_arg7) = m ((c : Thread nD τ).loc main_arg7) :=
  W3_args m ρ c main_arg7 (by decide)
theorem W3_main_arg8 (c : Dev nD) : W3 m ρ c (Proc.devRef .tc main_arg8) = m ((c : Thread nD τ).loc main_arg8) :=
  W3_args m ρ c main_arg8 (by decide)
theorem W3_main_arg9 (c : Dev nD) : W3 m ρ c (Proc.devRef .tc main_arg9) = m ((c : Thread nD τ).loc main_arg9) :=
  W3_args m ρ c main_arg9 (by decide)
theorem W3_main_arg10 (c : Dev nD) : W3 m ρ c (Proc.devRef .tc main_arg10) = m ((c : Thread nD τ).loc main_arg10) :=
  W3_args m ρ c main_arg10 (by decide)
theorem W3_main_arg11 (c : Dev nD) : W3 m ρ c (Proc.devRef .tc main_arg11) = m ((c : Thread nD τ).loc main_arg11) :=
  W3_args m ρ c main_arg11 (by decide)

/-! ## The proof data family and the thread state -/

/-- The prefetched tables' admissible contents: no pipeline has a table. -/
abbrev adm : (p : Fin 2) → (pcfgs (F := F) p).Adm := fun p => (cfgs p).toPCfg_adm
/-- Every pipeline's proof data, each at its region's entry contents — a literal `match`, so that the kit's
    `Pipeline.pin pcfgs adm p` at a numeral reduces to the printed configuration. -/
def pdats : (p : Fin 2) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V2 m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the core's generator register at some state (the class-A
    invariant takes it in and gives it back) and its `owes`, at nothing. -/
abbrev R (c : Dev nD) : sProp 𝕄 := iprop((∃ r, prngReg c r) ∗ ∃ W, owes (c : Thread nD τ) (0 : CellTallies nD τ sig Unit) W)
/-- A host stretch as a segment: `HostSeg.ofOps` over the unscoped references from the contents `W`, `R` riding along
    (its `post` is then those references at `StableHlo.after ops (W c)`: the next boundary's contents by name). -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes` (the kit's chain ends at it BESIDE the core owing nothing): every unscoped
    buffer at the last boundary's contents `W3`, the generator register at some state. -/
abbrev Tₙ (c : Dev nD) : sProp 𝕄 := iprop(StableHlo.held (c : Thread nD τ) (Pipeline.ucRefs τ sig) (W3 m ρ c) ∗ ∃ r, prngReg c r)

/-! ## The regions as segments -/

-- `iapply` of a library lemma stated over `pin pcs a p` unifies with the pinned configuration only when unification may
-- unfold plain definitions in a metavariable's type
set_option backward.isDefEq.respectTransparency.types false in
/-- REGION 0 (custom_call 0) over the thread state: entered from every unscoped buffer at `W1`, left at `W2`
    (what the next segment is entered from). Its arrays split out of the unscoped buffers
    (`arrays_of_unscopedBufs`) and put back at the exit contents (`unscopedBufs_of_arrays`); the generator register into the
    class invariant `ΦA` and out; nothing owed; no semaphore of the kernel's own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) (A_eq0 (V1 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- `iapply` of a library lemma stated over `pin pcs a p` unifies with the pinned configuration only when unification may
-- unfold plain definitions in a metavariable's type
set_option backward.isDefEq.respectTransparency.types false in
/-- REGION 1 (custom_call 1) over the thread state: entered from every unscoped buffer at `W2`, left at `W3`
    (what the launch reads at the end). Its arrays split out of the unscoped buffers
    (`arrays_of_unscopedBufs`) and put back at the exit contents (`unscopedBufs_of_arrays`); the generator register into the
    class invariant `ΦA` and out; nothing owed; no semaphore of the kernel's own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V2 m ρ) c).loose
  hwaits := Pipeline.hwaits_of_owed_zero _ _ _ _ L lv 1 fun _ _ => rfl
  pre c := iprop(StableHlo.held (c : Thread nD τ) (Pipeline.ucRefs τ sig) (W2 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V2 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V2 m ρ c) (A_eq1 (V2 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = (dat1 (V2 m ρ) c).Φ 0 from rfl]
    iintro ⟨Hp, -, Hr⟩
    iapply (hin1 (V2 m ρ) c)
    unfold Pipeline.ΦA
    isplitl [Hr]; · iexact Hr
    iexact Hp
  hout c := by
    rw [Pipeline.ownSems0_none, show (pdats m ρ 1 c).Φ (Fin.last _) = (dat1 (V2 m ρ) c).Φ (Fin.last _) from rfl]
    refine (hout1 (V2 m ρ) c).trans ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V2 m ρ c) (V3 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the launch -/

/-- @main's 3 segments in order: a host segment per stretch from its boundary's contents, a region per pallas_call. -/
abbrev segs : List (Pipeline.Seg (pcfgs (F := F)) adm (pdats m ρ) () defs₀ 𝒱₀ L lv) :=
  [ .host (hseg hostOps0 hostOps0_sub hostOps0_fresh (W0 m ρ)),
    .region (reg0 m ρ),
    .region (reg1 m ρ) ]
/-- @main IS the run of the segments: `Gen.main_chain`, then the segments' run against that chain by the kernel's
    definitional check (`chain_rfl`). -/
theorem main_run (c : Dev nD) : main (F := F) c = Pipeline.Seg.run (segs m ρ) := (main_chain c).trans (by chain_rfl)

/-- The TensorCore has no unscoped semaphore. -/
theorem no_unscoped : ∀ sm : SemLoc sig, sm.isScoped .tc = true := by decide

-- `θ_run_regions_kit_sems`'s implicit arguments are found by unifying its conclusion with this one, which takes unfolding
-- plain definitions in a metavariable's type
set_option backward.isDefEq.respectTransparency.types false in
/-- The run: from any memory with zero counters every weakly fair execution terminates with the argument arrays as launched,
    the result array at the last boundary's contents and every semaphore counter at zero. -/
theorem run : θ_run defs (onTc (τ := τ) (main (F := F))) ⟨m, fun _ => 0, ρ⟩ (fun r => (∀ c : Dev nD,
      (r.2.mem ((c.tc : Thread nD τ).loc main_v11) = W3 m ρ c (Proc.devRef .tc main_v11))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11))
      ∧ r.2.sem = fun _ => 0) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m ρ c b)
    (hfin := fun c s' => by
      iintro ⟨⟨Hh, -⟩, HSI⟩
      unfold StableHlo.held
      imodintro
      iapply (pointsTo_read_all (Pipeline.ucRefs τ sig) (fun b => (((c : Thread nD τ)).1, b)) (W3 m ρ c) s')
      isplitl [Hh] <;> iassumption)
    (hQ := fun s h hz => ⟨(fun c =>
      ⟨h c _ (mem_uc main_v11 (by decide)),
       (h c _ (mem_uc main_arg0 (by decide))).trans (W3_main_arg0 m ρ c),
       (h c _ (mem_uc main_arg1 (by decide))).trans (W3_main_arg1 m ρ c),
       (h c _ (mem_uc main_arg2 (by decide))).trans (W3_main_arg2 m ρ c),
       (h c _ (mem_uc main_arg3 (by decide))).trans (W3_main_arg3 m ρ c),
       (h c _ (mem_uc main_arg4 (by decide))).trans (W3_main_arg4 m ρ c),
       (h c _ (mem_uc main_arg5 (by decide))).trans (W3_main_arg5 m ρ c),
       (h c _ (mem_uc main_arg6 (by decide))).trans (W3_main_arg6 m ρ c),
       (h c _ (mem_uc main_arg7 (by decide))).trans (W3_main_arg7 m ρ c),
       (h c _ (mem_uc main_arg8 (by decide))).trans (W3_main_arg8 m ρ c),
       (h c _ (mem_uc main_arg9 (by decide))).trans (W3_main_arg9 m ρ c),
       (h c _ (mem_uc main_arg10 (by decide))).trans (W3_main_arg10 m ρ c),
       (h c _ (mem_uc main_arg11 (by decide))).trans (W3_main_arg11 m ρ c)⟩), funext fun g => hz g (.inr (no_unscoped g.2))⟩)

/-- The arguments end unchanged and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11))
      ∧ r.2.sem = fun _ => 0) :=
  (θ_run defs _ _).mono (fun _ h => ⟨fun c => (h.1 c).2, h.2⟩) (run m ρ)

end Cert.KernelIdeal.Own

end
-- ==== Proof.R_Frame.lean ====
/- The reference's run, with its semaphores: a host program has none. -/
module

public import proofs.«01_k».proof.Proof.Gen.ReferenceIdeal.Run
public import Idealize.ShloMosaic.Lib.Quiescent

@[expose] public section

set_option maxRecDepth 16384

noncomputable section

namespace Cert.ReferenceIdeal.Own

open Cert.ReferenceIdeal Cert.ReferenceIdeal.Gen Idealize.ShloMosaic Idealize.ShloMosaic.TcCoe Idealize.SL.Sem Idealize.ShloMosaic.StableHlo

variable {F : FTy → Type} [FloatOps F]

/-- The arguments end unchanged and every counter at zero. -/
theorem frame (m : (ℓ : Loc nD τ sig) → Buf (Elt F) ℓ) (ρ : Dev nD → PrngReg) :
    θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11))
      ∧ r.2.sem = fun _ => 0) :=
  (θ_run defs _ _).mono (fun _ h => ⟨fun c => (h c).2, sem_eq_zero_of_no_sems rfl _⟩) (Cert.ReferenceIdeal.Value.run m ρ)

end Cert.ReferenceIdeal.Own

end
-- ==== Proof.A_Row.lean ====
/- One point's row of weights: three rounds of "take the smallest, count how often it stands there, put it out of sight"
   give the weights of the three nearest points. -/
module

public import Idealize.ShloMosaic.Lib.Pointwise
public import Idealize.ShloMosaic.Lib.IdealHost
public import Mathlib.Tactic.FieldSimp
public import Mathlib.Tactic.Ring
public import Mathlib.Tactic.Linarith
public import Mathlib.Tactic.Positivity

@[expose] public section

set_option maxRecDepth 16384

noncomputable section

namespace Knn

open Idealize.ShloMosaic

/-- The word the kernel starts a minimum from is plus infinity. -/
theorem inf_word : Ideal.ofBits .f32 0x7F800000#32 = ⊤ := by
  simp [Ideal.ofBits, Ideal.ieee]

/-- The word `0x40400000` is three. -/
theorem three_word : Ideal.ofBits .f32 0x40400000#32 = ((3 : ℝ) : EReal) := by
  simp [Ideal.ofBits, Ideal.ieee]
  rw [← EReal.coe_mul]
  norm_num

variable {n : ℕ}

/-- The smallest entry of a row. -/
def mn (D : Fin n → EReal) : EReal := Finset.fold min ⊤ D Finset.univ

/-- One where the smallest entry stands, zero elsewhere. -/
def hit (D : Fin n → EReal) (j : Fin n) : EReal := if D j = mn D then 1 else 0

/-- How often the smallest entry stands in the row. -/
def cnt (D : Fin n → EReal) : EReal := ∑ j, hit D j

/-- The row with its smallest entries put out of sight. -/
def hide (D : Fin n → EReal) (j : Fin n) : EReal := if D j = mn D then ⊤ else D j

/-- The reciprocal of a row's smallest entry, moved away from zero by `e`. -/
def rcp (e : EReal) (D : Fin n → EReal) : EReal := Ideal.div 1 (mn D + e)

/-- How many of three places the first round takes. -/
def take1 (D : Fin n → EReal) : EReal := min (cnt D) ((3 : ℝ) : EReal)
/-- How many of three places the second round takes. -/
def take2 (D : Fin n → EReal) : EReal := min (cnt (hide D)) (((3 : ℝ) : EReal) - take1 D)
/-- How many of three places the third round takes. -/
def take3 (D : Fin n → EReal) : EReal := min (cnt (hide (hide D))) (((3 : ℝ) : EReal) - take1 D - take2 D)

/-- The sum the weights are divided by. -/
def norm3 (e : EReal) (D : Fin n → EReal) : EReal :=
  take1 D * rcp e D + take2 D * rcp e (hide D) + take3 D * rcp e (hide (hide D))

/-- The row of weights as the kernel computes it. -/
def weight (e : EReal) (D : Fin n → EReal) (j : Fin n) : EReal :=
  0 + hit D j * Ideal.div (rcp e D * take1 D) (cnt D * norm3 e D)
    + hit (hide D) j * Ideal.div (rcp e (hide D) * take2 D) (cnt (hide D) * norm3 e D)
    + hit (hide (hide D)) j * Ideal.div (rcp e (hide (hide D)) * take3 D) (cnt (hide (hide D)) * norm3 e D)

/-- The smallest entry is below every entry. -/
theorem mn_le (D : Fin n → EReal) (j : Fin n) : mn D ≤ D j :=
  (Finset.fold_min_le _).2 (Or.inr ⟨j, Finset.mem_univ j, le_rfl⟩)

/-- An entry below every entry is the smallest. -/
theorem mn_eq (D : Fin n → EReal) (a : Fin n) (h : ∀ j, D a ≤ D j) : mn D = D a :=
  le_antisymm (mn_le D a) ((Finset.le_fold_min _).2 ⟨le_top, fun j _ => h j⟩)

/-- The smallest entry stands somewhere. -/
theorem mn_mem (D : Fin n → EReal) [Nonempty (Fin n)] : ∃ a, D a = mn D := by
  obtain ⟨a, ha⟩ := Finite.exists_min D
  exact ⟨a, (mn_eq D a ha).symm⟩

/-- The count is a whole number, and at least one. -/
theorem cnt_pos (D : Fin n → EReal) [Nonempty (Fin n)] : ∃ k : ℝ, 0 < k ∧ cnt D = (k : EReal) := by
  classical
  refine ⟨((Finset.univ.filter fun j => D j = mn D).card : ℝ), ?_, ?_⟩
  · obtain ⟨a, ha⟩ := mn_mem D
    have : 0 < (Finset.univ.filter fun j => D j = mn D).card := Finset.card_pos.2 ⟨a, by simpa using ha⟩
    exact_mod_cast this
  · unfold cnt hit
    rw [Finset.sum_ite]
    simp

/-- A row of distances in which the points of `S` are out of sight. -/
def seen (S : Finset (Fin n)) (δ : Fin n → ℝ) (j : Fin n) : EReal := if j ∈ S then ⊤ else (δ j : EReal)

/-- What one round does, when `T` are the points in sight at the smallest distance `v`. -/
theorem round (S T : Finset (Fin n)) (δ : Fin n → ℝ) (v : ℝ) (hd : Disjoint S T) (hne : T.Nonempty)
    (hT : ∀ j ∈ T, δ j = v) (hrest : ∀ j, j ∉ S → j ∉ T → v < δ j) :
    mn (seen S δ) = (v : EReal) ∧ (∀ j, hit (seen S δ) j = if j ∈ T then 1 else 0)
      ∧ cnt (seen S δ) = ((T.card : ℝ) : EReal) ∧ hide (seen S δ) = seen (S ∪ T) δ := by
  classical
  have hTS : ∀ j ∈ T, j ∉ S := fun j hj hs => Finset.disjoint_left.1 hd hs hj
  obtain ⟨a, ha⟩ := hne
  have hsa : seen S δ a = (v : EReal) := by simp [seen, hTS a ha, hT a ha]
  have hm : mn (seen S δ) = (v : EReal) := by
    rw [← hsa]
    refine mn_eq _ a fun j => ?_
    rw [hsa]
    unfold seen
    split
    · exact le_top
    · rename_i hj
      by_cases hjT : j ∈ T
      · rw [hT j hjT]
      · exact_mod_cast (hrest j hj hjT).le
  have hiff : ∀ j, seen S δ j = (v : EReal) ↔ j ∈ T := by
    intro j
    unfold seen
    split
    · rename_i hj
      constructor
      · intro h; exact absurd h.symm (EReal.coe_ne_top v)
      · intro h; exact absurd hj (hTS j h)
    · rename_i hj
      constructor
      · intro h
        by_contra hjT
        have h' : δ j = v := by exact_mod_cast h
        exact absurd h'.symm (hrest j hj hjT).ne
      · intro h; rw [hT j h]
  have hh : ∀ j, hit (seen S δ) j = if j ∈ T then 1 else 0 := by
    intro j
    unfold hit
    rw [hm]
    simp only [hiff]
  refine ⟨hm, hh, ?_, ?_⟩
  · unfold cnt
    rw [Finset.sum_congr rfl fun j _ => hh j, Finset.sum_ite_mem]
    simp
  · funext j
    unfold hide
    rw [hm]
    simp only [hiff]
    by_cases hj : j ∈ T
    · simp [seen, hj]
    · simp [seen, hj]

/-- Division of one real number by another that is not zero. -/
theorem div_real (x y : ℝ) (hy : y ≠ 0) : Ideal.div (x : EReal) (y : EReal) = ((x / y : ℝ) : EReal) := by
  rw [Ideal.div_coe hy, ← EReal.coe_mul]
  congr 1
  ring

/-- The reciprocal of a real distance. -/
theorem rcp_real (D : Fin n → EReal) (e v : ℝ) (h : mn D = (v : EReal)) (hp : 0 < v + e) :
    rcp (e : EReal) D = ((1 / (v + e) : ℝ) : EReal) := by
  unfold rcp
  rw [h, ← EReal.coe_add, show (1 : EReal) = ((1 : ℝ) : EReal) from rfl, div_real _ _ hp.ne']

/-- A product with a quotient whose numerator is zero and whose denominator is a positive real. -/
theorem mul_div_zero (x r : EReal) (k N : ℝ) (hk : 0 < k) (hN : 0 < N) :
    x * Ideal.div (r * 0) ((k : EReal) * (N : EReal)) = 0 := by
  rw [mul_zero, ← EReal.coe_mul, show (0 : EReal) = ((0 : ℝ) : EReal) from rfl, div_real _ _ (mul_pos hk hN).ne', zero_div]
  simp

/-- The weight of point `x` among the three at distances `da`, `db`, `dc`. -/
def share (e da db dc x : ℝ) : ℝ := (1 / (x + e)) / (1 / (da + e) + 1 / (db + e) + 1 / (dc + e))

section Weights

variable {e : ℝ} (he : 0 < e) (δ : Fin n → ℝ) (hδ : ∀ j, 0 ≤ δ j) {a b c : Fin n}
  (hrest : ∀ j, j ≠ a → j ≠ b → j ≠ c → δ c < δ j)

include he hδ hrest in
/-- The weights when the three nearest points are equally far. -/
theorem weight_tie3 (hab : a ≠ b) (hac : a ≠ c) (hbc : b ≠ c) (h1 : δ a = δ b) (h2 : δ b = δ c) (j : Fin n) :
    weight (e : EReal) (fun j => (δ j : EReal)) j
      = (((if j = a then share e (δ a) (δ b) (δ c) (δ a) else 0) + (if j = b then share e (δ a) (δ b) (δ c) (δ b) else 0)
          + (if j = c then share e (δ a) (δ b) (δ c) (δ c) else 0) : ℝ) : EReal) := by
  classical
  have hD : (fun j => (δ j : EReal)) = seen ∅ δ := by funext j; simp [seen]
  obtain ⟨m1, e1, c1, g1⟩ := round ∅ {a, b, c} δ (δ c) (by simp) (by simp) (by
    intro j hj
    simp only [Finset.mem_insert, Finset.mem_singleton] at hj
    rcases hj with rfl | rfl | rfl <;> linarith) (by
    intro j _ hj
    simp only [Finset.mem_insert, Finset.mem_singleton, not_or] at hj
    exact hrest j hj.1 hj.2.1 hj.2.2)
  have hcard : ({a, b, c} : Finset (Fin n)).card = 3 := Finset.card_eq_three.2 ⟨a, b, c, hab, hac, hbc, rfl⟩
  haveI : Nonempty (Fin n) := ⟨a⟩
  have pc : 0 < δ c + e := by linarith [hδ c]
  have r1 : rcp (e : EReal) (seen ∅ δ) = _ := rcp_real _ e _ m1 pc
  have t1 : take1 (seen ∅ δ) = ((3 : ℝ) : EReal) := by unfold take1; rw [c1, hcard]; simp
  obtain ⟨k2, hk2, c2⟩ := cnt_pos (hide (seen ∅ δ))
  obtain ⟨k3, hk3, c3⟩ := cnt_pos (hide (hide (seen ∅ δ)))
  have t2 : take2 (seen ∅ δ) = 0 := by
    unfold take2
    rw [t1, c2, ← EReal.coe_sub, sub_self, EReal.coe_zero]
    exact min_eq_right (by exact_mod_cast hk2.le)
  have t3 : take3 (seen ∅ δ) = 0 := by
    unfold take3
    rw [t1, t2, c3, ← EReal.coe_sub, sub_self, EReal.coe_zero, sub_zero]
    exact min_eq_right (by exact_mod_cast hk3.le)
  have hN : norm3 (e : EReal) (seen ∅ δ) = ((3 * (1 / (δ c + e)) : ℝ) : EReal) := by
    unfold norm3
    rw [t1, t2, t3, r1]
    simp
  have hNp : 0 < 3 * (1 / (δ c + e)) := by positivity
  rw [hD]
  unfold weight
  rw [t1, t2, t3, r1, hN, c1, c2, c3, mul_div_zero _ _ _ _ hk2 hNp, mul_div_zero _ _ _ _ hk3 hNp, e1, hcard, ← EReal.coe_mul,
    ← EReal.coe_mul, div_real _ _ (by positivity), zero_add, add_zero, add_zero]
  have hs : 1 / (δ c + e) * 3 / (((3 : ℕ) : ℝ) * (3 * (1 / (δ c + e)))) = share e (δ a) (δ b) (δ c) (δ c) := by
    unfold share
    rw [h1, h2]
    field_simp
    norm_num
  rw [hs, h1, h2]
  by_cases ja : j = a
  · subst ja; simp [hab, hac]
  by_cases jb : j = b
  · subst jb; simp [hab.symm, hbc]
  by_cases jc : j = c
  · subst jc; simp [hac.symm, hbc.symm]
  · simp [ja, jb, jc]

include he hδ hrest in
/-- The weights when the two nearest points are equally far and the third is farther. -/
theorem weight_tie12 (hab : a ≠ b) (hac : a ≠ c) (hbc : b ≠ c) (h1 : δ a = δ b) (h2 : δ b < δ c) (j : Fin n) :
    weight (e : EReal) (fun j => (δ j : EReal)) j
      = (((if j = a then share e (δ a) (δ b) (δ c) (δ a) else 0) + (if j = b then share e (δ a) (δ b) (δ c) (δ b) else 0)
          + (if j = c then share e (δ a) (δ b) (δ c) (δ c) else 0) : ℝ) : EReal) := by
  classical
  have hD : (fun j => (δ j : EReal)) = seen ∅ δ := by funext j; simp [seen]
  obtain ⟨m1, e1, c1, g1⟩ := round ∅ {a, b} δ (δ b) (by simp) (by simp) (by
    intro j hj
    simp only [Finset.mem_insert, Finset.mem_singleton] at hj
    rcases hj with rfl | rfl <;> linarith) (by
    intro j _ hj
    simp only [Finset.mem_insert, Finset.mem_singleton, not_or] at hj
    by_cases jc : j = c
    · rw [jc]; exact h2
    · exact h2.trans (hrest j hj.1 hj.2 jc))
  obtain ⟨m2, e2, c2, g2⟩ := round (∅ ∪ {a, b}) {c} δ (δ c) (by simp [hac.symm, hbc.symm]) (by simp) (by
    intro j hj
    rw [Finset.mem_singleton.1 hj]) (by
    intro j hS hj
    simp only [Finset.empty_union, Finset.mem_insert, Finset.mem_singleton, not_or] at hS hj
    exact hrest j hS.1 hS.2 hj)
  rw [← g1] at m2 e2 c2 g2
  have hcard : ({a, b} : Finset (Fin n)).card = 2 := Finset.card_pair hab
  haveI : Nonempty (Fin n) := ⟨a⟩
  have pb : 0 < δ b + e := by linarith [hδ b]
  have pc : 0 < δ c + e := by linarith [hδ c]
  have r1 : rcp (e : EReal) (seen ∅ δ) = _ := rcp_real _ e _ m1 pb
  have r2 : rcp (e : EReal) (hide (seen ∅ δ)) = _ := rcp_real _ e _ m2 pc
  obtain ⟨k3, hk3, c3⟩ := cnt_pos (hide (hide (seen ∅ δ)))
  have t1 : take1 (seen ∅ δ) = ((2 : ℝ) : EReal) := by
    unfold take1; rw [c1, hcard]; exact min_eq_left (by exact_mod_cast (by norm_num : (2 : ℝ) ≤ 3))
  have t2 : take2 (seen ∅ δ) = ((1 : ℝ) : EReal) := by
    unfold take2
    rw [t1, c2, ← EReal.coe_sub, Finset.card_singleton]
    norm_num
  have t3 : take3 (seen ∅ δ) = 0 := by
    unfold take3
    rw [t1, t2, c3, ← EReal.coe_sub, ← EReal.coe_sub]
    exact (min_eq_right (by exact_mod_cast (by linarith : (3 : ℝ) - 2 - 1 ≤ k3))).trans (by norm_num)
  have hN : norm3 (e : EReal) (seen ∅ δ) = ((2 * (1 / (δ b + e)) + 1 * (1 / (δ c + e)) : ℝ) : EReal) := by
    unfold norm3
    rw [t1, t2, t3, r1, r2, zero_mul, add_zero, ← EReal.coe_mul, ← EReal.coe_mul, ← EReal.coe_add]
  have hNp : 0 < 2 * (1 / (δ b + e)) + 1 * (1 / (δ c + e)) := by positivity
  rw [hD]
  unfold weight
  rw [t1, t2, t3, r1, r2, hN, c1, c2, c3, mul_div_zero _ _ _ _ hk3 hNp, e1, e2, hcard, Finset.card_singleton, ← EReal.coe_mul,
    ← EReal.coe_mul, div_real _ _ (by positivity), ← EReal.coe_mul, ← EReal.coe_mul, div_real _ _ (by positivity), zero_add, add_zero]
  have hs : 1 / (δ b + e) * 2 / (((2 : ℕ) : ℝ) * (2 * (1 / (δ b + e)) + 1 * (1 / (δ c + e)))) = share e (δ a) (δ b) (δ c) (δ b) := by
    unfold share
    rw [h1]
    have : 2 * (1 / (δ b + e)) + 1 * (1 / (δ c + e)) = 1 / (δ b + e) + 1 / (δ b + e) + 1 / (δ c + e) := by ring
    rw [this, mul_comm (1 / (δ b + e)) 2, Nat.cast_ofNat, mul_div_mul_left _ _ two_ne_zero]
  have hs' : 1 / (δ c + e) * 1 / (((1 : ℕ) : ℝ) * (2 * (1 / (δ b + e)) + 1 * (1 / (δ c + e)))) = share e (δ a) (δ b) (δ c) (δ c) := by
    unfold share
    rw [h1, mul_one, Nat.cast_one, one_mul]
    congr 1
    ring
  rw [hs, hs', h1]
  by_cases ja : j = a
  · subst ja; simp [hab, hac]
  by_cases jb : j = b
  · subst jb; simp [hab.symm, hbc]
  by_cases jc : j = c
  · subst jc; simp [hac.symm, hbc.symm]
  · simp [ja, jb, jc]

include he hδ hrest in
/-- The weights when the nearest point is nearer than the two others, which are equally far. -/
theorem weight_tie23 (hab : a ≠ b) (hac : a ≠ c) (hbc : b ≠ c) (h1 : δ a < δ b) (h2 : δ b = δ c) (j : Fin n) :
    weight (e : EReal) (fun j => (δ j : EReal)) j
      = (((if j = a then share e (δ a) (δ b) (δ c) (δ a) else 0) + (if j = b then share e (δ a) (δ b) (δ c) (δ b) else 0)
          + (if j = c then share e (δ a) (δ b) (δ c) (δ c) else 0) : ℝ) : EReal) := by
  classical
  have hD : (fun j => (δ j : EReal)) = seen ∅ δ := by funext j; simp [seen]
  obtain ⟨m1, e1, c1, g1⟩ := round ∅ {a} δ (δ a) (by simp) (by simp) (by
    intro j hj
    rw [Finset.mem_singleton.1 hj]) (by
    intro j _ hj
    simp only [Finset.mem_singleton] at hj
    by_cases jb : j = b
    · rw [jb]; exact h1
    by_cases jc : j = c
    · rw [jc, ← h2]; exact h1
    · exact (h1.trans_eq h2).trans (hrest j hj jb jc))
  obtain ⟨m2, e2, c2, g2⟩ := round (∅ ∪ {a}) {b, c} δ (δ c) (by simp [hab.symm, hac.symm, hab, hac]) (by simp) (by
    intro j hj
    simp only [Finset.mem_insert, Finset.mem_singleton] at hj
    rcases hj with rfl | rfl
    · exact h2
    · rfl) (by
    intro j hS hj
    simp only [Finset.empty_union, Finset.mem_insert, Finset.mem_singleton, not_or] at hS hj
    exact hrest j hS hj.1 hj.2)
  rw [← g1] at m2 e2 c2 g2
  have hcard : ({b, c} : Finset (Fin n)).card = 2 := Finset.card_pair hbc
  haveI : Nonempty (Fin n) := ⟨a⟩
  have pa : 0 < δ a + e := by linarith [hδ a]
  have pc : 0 < δ c + e := by linarith [hδ c]
  have r1 : rcp (e : EReal) (seen ∅ δ) = _ := rcp_real _ e _ m1 pa
  have r2 : rcp (e : EReal) (hide (seen ∅ δ)) = _ := rcp_real _ e _ m2 pc
  obtain ⟨k3, hk3, c3⟩ := cnt_pos (hide (hide (seen ∅ δ)))
  have t1 : take1 (seen ∅ δ) = ((1 : ℝ) : EReal) := by
    unfold take1; rw [c1, Finset.card_singleton, Nat.cast_one]
    exact min_eq_left (by exact_mod_cast (by norm_num : (1 : ℝ) ≤ 3))
  have t2 : take2 (seen ∅ δ) = ((2 : ℝ) : EReal) := by
    unfold take2
    rw [t1, c2, ← EReal.coe_sub, hcard]
    norm_num
  have t3 : take3 (seen ∅ δ) = 0 := by
    unfold take3
    rw [t1, t2, c3, ← EReal.coe_sub, ← EReal.coe_sub]
    exact (min_eq_right (by exact_mod_cast (by linarith : (3 : ℝ) - 1 - 2 ≤ k3))).trans (by norm_num)
  have hN : norm3 (e : EReal) (seen ∅ δ) = ((1 * (1 / (δ a + e)) + 2 * (1 / (δ c + e)) : ℝ) : EReal) := by
    unfold norm3
    rw [t1, t2, t3, r1, r2, zero_mul, add_zero, ← EReal.coe_mul, ← EReal.coe_mul, ← EReal.coe_add]
  have hNp : 0 < 1 * (1 / (δ a + e)) + 2 * (1 / (δ c + e)) := by positivity
  rw [hD]
  unfold weight
  rw [t1, t2, t3, r1, r2, hN, c1, c2, c3, mul_div_zero _ _ _ _ hk3 hNp, e1, e2, hcard, Finset.card_singleton, ← EReal.coe_mul,
    ← EReal.coe_mul, div_real _ _ (by positivity), ← EReal.coe_mul, ← EReal.coe_mul, div_real _ _ (by positivity), zero_add, add_zero]
  have hs : 1 / (δ c + e) * 2 / (((2 : ℕ) : ℝ) * (1 * (1 / (δ a + e)) + 2 * (1 / (δ c + e)))) = share e (δ a) (δ b) (δ c) (δ c) := by
    unfold share
    rw [h2]
    have : 1 * (1 / (δ a + e)) + 2 * (1 / (δ c + e)) = 1 / (δ a + e) + 1 / (δ c + e) + 1 / (δ c + e) := by ring
    rw [this, mul_comm (1 / (δ c + e)) 2, Nat.cast_ofNat, mul_div_mul_left _ _ two_ne_zero]
  have hs' : 1 / (δ a + e) * 1 / (((1 : ℕ) : ℝ) * (1 * (1 / (δ a + e)) + 2 * (1 / (δ c + e)))) = share e (δ a) (δ b) (δ c) (δ a) := by
    unfold share
    rw [h2, mul_one, Nat.cast_one, one_mul]
    congr 1
    ring
  rw [hs, hs', h2]
  by_cases ja : j = a
  · subst ja; simp [hab, hac]
  by_cases jb : j = b
  · subst jb; simp [hab.symm, hbc]
  by_cases jc : j = c
  · subst jc; simp [hac.symm, hbc.symm]
  · simp [ja, jb, jc]

include he hδ hrest in
/-- The weights when no two of the three nearest points are equally far. -/
theorem weight_strict (hab : a ≠ b) (hac : a ≠ c) (hbc : b ≠ c) (h1 : δ a < δ b) (h2 : δ b < δ c) (j : Fin n) :
    weight (e : EReal) (fun j => (δ j : EReal)) j
      = (((if j = a then share e (δ a) (δ b) (δ c) (δ a) else 0) + (if j = b then share e (δ a) (δ b) (δ c) (δ b) else 0)
          + (if j = c then share e (δ a) (δ b) (δ c) (δ c) else 0) : ℝ) : EReal) := by
  classical
  have hD : (fun j => (δ j : EReal)) = seen ∅ δ := by funext j; simp [seen]
  obtain ⟨m1, e1, c1, g1⟩ := round ∅ {a} δ (δ a) (by simp) (by simp) (by
    intro j hj
    rw [Finset.mem_singleton.1 hj]) (by
    intro j _ hj
    simp only [Finset.mem_singleton] at hj
    by_cases jb : j = b
    · rw [jb]; exact h1
    by_cases jc : j = c
    · rw [jc]; exact h1.trans h2
    · exact (h1.trans h2).trans (hrest j hj jb jc))
  obtain ⟨m2, e2, c2, g2⟩ := round (∅ ∪ {a}) {b} δ (δ b) (by simp [hab.symm, hab]) (by simp) (by
    intro j hj
    rw [Finset.mem_singleton.1 hj]) (by
    intro j hS hj
    simp only [Finset.empty_union, Finset.mem_insert, Finset.mem_singleton, not_or] at hS hj
    by_cases jc : j = c
    · rw [jc]; exact h2
    · exact h2.trans (hrest j hS hj jc))
  obtain ⟨m3, e3, c3, g3⟩ := round (∅ ∪ {a} ∪ {b}) {c} δ (δ c) (by simp [hac.symm, hbc.symm, hac, hbc]) (by simp) (by
    intro j hj
    rw [Finset.mem_singleton.1 hj]) (by
    intro j hS hj
    simp only [Finset.empty_union, Finset.mem_union, Finset.mem_insert, Finset.mem_singleton, not_or] at hS hj
    exact hrest j hS.1 hS.2 hj)
  rw [← g2] at m3 e3 c3 g3
  rw [← g1] at m2 e2 c2 g2 m3 e3 c3 g3
  have pa : 0 < δ a + e := by linarith [hδ a]
  have pb : 0 < δ b + e := by linarith [hδ b]
  have pc : 0 < δ c + e := by linarith [hδ c]
  have r1 : rcp (e : EReal) (seen ∅ δ) = _ := rcp_real _ e _ m1 pa
  have r2 : rcp (e : EReal) (hide (seen ∅ δ)) = _ := rcp_real _ e _ m2 pb
  have r3 : rcp (e : EReal) (hide (hide (seen ∅ δ))) = _ := rcp_real _ e _ m3 pc
  rw [Finset.card_singleton, Nat.cast_one] at c1 c2 c3
  have t1 : take1 (seen ∅ δ) = ((1 : ℝ) : EReal) := by
    unfold take1; rw [c1]; exact min_eq_left (by exact_mod_cast (by norm_num : (1 : ℝ) ≤ 3))
  have t2 : take2 (seen ∅ δ) = ((1 : ℝ) : EReal) := by
    unfold take2
    rw [t1, c2, ← EReal.coe_sub]
    exact min_eq_left (by exact_mod_cast (by norm_num : (1 : ℝ) ≤ 3 - 1))
  have t3 : take3 (seen ∅ δ) = ((1 : ℝ) : EReal) := by
    unfold take3
    rw [t1, t2, c3, ← EReal.coe_sub, ← EReal.coe_sub]
    exact min_eq_left (by exact_mod_cast (by norm_num : (1 : ℝ) ≤ 3 - 1 - 1))
  have hN : norm3 (e : EReal) (seen ∅ δ) = ((1 / (δ a + e) + 1 / (δ b + e) + 1 / (δ c + e) : ℝ) : EReal) := by
    unfold norm3
    rw [t1, t2, t3, r1, r2, r3, ← EReal.coe_mul, ← EReal.coe_mul, ← EReal.coe_mul, ← EReal.coe_add, ← EReal.coe_add, one_mul, one_mul,
      one_mul]
  have hNp : 0 < 1 / (δ a + e) + 1 / (δ b + e) + 1 / (δ c + e) := by positivity
  rw [hD]
  unfold weight
  rw [t1, t2, t3, r1, r2, r3, hN, c1, c2, c3, e1, e2, e3]
  simp only [EReal.coe_one, mul_one, one_mul, zero_add]
  rw [div_real _ _ hNp.ne', div_real _ _ hNp.ne', div_real _ _ hNp.ne']
  change _ + _ * (share e (δ a) (δ b) (δ c) (δ b) : EReal) + _ * (share e (δ a) (δ b) (δ c) (δ c) : EReal) = _
  change _ * (share e (δ a) (δ b) (δ c) (δ a) : EReal) + _ + _ = _
  by_cases ja : j = a
  · subst ja; simp [hab, hac]
  by_cases jb : j = b
  · subst jb; simp [hab.symm, hbc]
  by_cases jc : j = c
  · subst jc; simp [hac.symm, hbc.symm]
  · simp [ja, jb, jc]

include he hδ hrest in
/-- The kernel's row of weights: each of the three nearest points has its share, and no other point has any. -/
theorem weight_eq (hab : a ≠ b) (hac : a ≠ c) (hbc : b ≠ c) (h1 : δ a ≤ δ b) (h2 : δ b ≤ δ c) (j : Fin n) :
    weight (e : EReal) (fun j => (δ j : EReal)) j
      = (((if j = a then share e (δ a) (δ b) (δ c) (δ a) else 0) + (if j = b then share e (δ a) (δ b) (δ c) (δ b) else 0)
          + (if j = c then share e (δ a) (δ b) (δ c) (δ c) else 0) : ℝ) : EReal) := by
  rcases h1.lt_or_eq with h1 | h1 <;> rcases h2.lt_or_eq with h2 | h2
  · exact weight_strict he δ hδ hrest hab hac hbc h1 h2 j
  · exact weight_tie23 he δ hδ hrest hab hac hbc h1 h2 j
  · exact weight_tie12 he δ hδ hrest hab hac hbc h1 h2 j
  · exact weight_tie3 he δ hδ hrest hab hac hbc h1 h2 j

end Weights

end Knn

end
-- ==== Proof.A_Norm.lean ====
/- Batch normalisation followed by a clamp at zero: the two ways the programs compute it give one real number. -/
module

public import Idealize.ShloMosaic.Lib.Pointwise
public import Idealize.ShloMosaic.Lib.IdealHost
public import Mathlib.Tactic.FieldSimp
public import Mathlib.Tactic.Ring
public import Mathlib.Tactic.Linarith
public import Mathlib.Tactic.Positivity
public import proofs.«01_k».proof.Proof.A_Row

@[expose] public section

set_option maxRecDepth 16384

noncomputable section

namespace Knn

open Idealize.ShloMosaic

/-- The word `0xC0000000` is minus two. -/
theorem neg_two_word : Ideal.ofBits .f32 0xC0000000#32 = ((-2 : ℝ) : EReal) := by
  simp [Ideal.ofBits, Ideal.ieee]
  rw [← EReal.coe_mul]
  norm_num

/-- The word `0x47000000` is the number of points, 32768. -/
theorem count_word : Ideal.ofBits .f32 0x47000000#32 = ((32768 : ℝ) : EReal) := by
  simp [Ideal.ofBits, Ideal.ieee]
  rw [← EReal.coe_mul]
  norm_num

/-- The number that keeps a variance away from zero. -/
def eps : ℝ := (Ideal.ofBits .f32 0x3727C5AC#32).toReal

/-- The number that keeps a distance away from zero. -/
def tiny : ℝ := (Ideal.ofBits .f32 0x322BCC77#32).toReal

/-- The variance's constant is a positive real. -/
theorem eps_word : Ideal.ofBits .f32 0x3727C5AC#32 = (eps : EReal) ∧ 0 < eps := by
  have h : ∃ r : ℝ, 0 < r ∧ Ideal.ofBits .f32 0x3727C5AC#32 = (r : EReal) := by
    refine ⟨10995116 * (1 / 2 ^ 40), by positivity, ?_⟩
    simp [Ideal.ofBits, Ideal.ieee]
  obtain ⟨r, hr, h⟩ := h
  unfold eps
  rw [h, EReal.toReal_coe]
  exact ⟨rfl, hr⟩

/-- The distance's constant is a positive real. -/
theorem tiny_word : Ideal.ofBits .f32 0x322BCC77#32 = (tiny : EReal) ∧ 0 < tiny := by
  have h : ∃ r : ℝ, 0 < r ∧ Ideal.ofBits .f32 0x322BCC77#32 = (r : EReal) := by
    refine ⟨11258999 * (1 / 2 ^ 50), by positivity, ?_⟩
    simp [Ideal.ofBits, Ideal.ieee]
  obtain ⟨r, hr, h⟩ := h
  unfold tiny
  rw [h, EReal.toReal_coe]
  exact ⟨rfl, hr⟩

/-- The sum of a channel's values over all points of all batches. -/
def total (x : Fin 8 → Fin 4096 → ℝ) : ℝ := ∑ b, ∑ n, x b n

/-- A channel's mean. -/
def mean (x : Fin 8 → Fin 4096 → ℝ) : ℝ := total x / 32768

/-- A channel's variance. -/
def var (x : Fin 8 → Fin 4096 → ℝ) : ℝ := total (fun b n => (x b n - mean x) * (x b n - mean x)) / 32768

/-- A channel normalised, scaled, shifted and clamped at zero. -/
def bn (g be : ℝ) (x : Fin 8 → Fin 4096 → ℝ) (b : Fin 8) (n : Fin 4096) : ℝ :=
  max ((x b n - mean x) / Real.sqrt (var x + eps) * g + be) 0

/-- A variance is not negative. -/
theorem var_nonneg (x : Fin 8 → Fin 4096 → ℝ) : 0 ≤ var x :=
  div_nonneg (Finset.sum_nonneg fun b _ => Finset.sum_nonneg fun n _ => mul_self_nonneg _) (by norm_num)

/-- The total of a channel moved by a constant. -/
theorem total_add (x : Fin 8 → Fin 4096 → ℝ) (c : ℝ) : total (fun b n => x b n + c) = total x + 32768 * c := by
  unfold total
  simp only [Finset.sum_add_distrib, Finset.sum_const, Finset.card_univ, Fintype.card_fin, nsmul_eq_mul]
  ring

/-- The mean moves with the channel. -/
theorem mean_add (x : Fin 8 → Fin 4096 → ℝ) (c : ℝ) : mean (fun b n => x b n + c) = mean x + c := by
  unfold mean
  rw [total_add]
  field_simp

/-- Normalising a channel moved by a constant is normalising the channel. -/
theorem bn_add (g be : ℝ) (x : Fin 8 → Fin 4096 → ℝ) (c : ℝ) : bn g be (fun b n => x b n + c) = bn g be x := by
  funext b n
  unfold bn var
  simp only [mean_add, add_sub_add_right_eq_sub]

/-- The variance as the mean of the squares minus the square of the mean. -/
theorem var_eq (x : Fin 8 → Fin 4096 → ℝ) :
    total (fun b n => x b n * x b n) / 32768 - mean x * mean x = var x := by
  have h : total (fun b n => (x b n - mean x) * (x b n - mean x))
      = total (fun b n => x b n * x b n) - 2 * mean x * total x + 32768 * (mean x * mean x) := by
    have : (fun b n => (x b n - mean x) * (x b n - mean x))
        = fun b n => (x b n * x b n + -(2 * mean x) * x b n) + mean x * mean x := by funext b n; ring
    rw [this, total_add]
    unfold total
    simp only [Finset.sum_add_distrib, ← Finset.mul_sum]
    ring
  have ht : total x = 32768 * mean x := by unfold mean; field_simp
  unfold var
  rw [h, ht]
  field_simp
  ring

/-- Division by 32768. -/
theorem div_count (x : ℝ) : Ideal.div (x : EReal) (Ideal.ofBits .f32 0x47000000#32) = ((x / 32768 : ℝ) : EReal) := by
  rw [count_word, div_real _ _ (by norm_num)]

/-- The larger of a real number and zero. -/
theorem max_zero (x : ℝ) : max (x : EReal) 0 = ((max x 0 : ℝ) : EReal) := by
  rw [← EReal.coe_zero]
  exact (EReal.coe_strictMono.monotone.map_max).symm

/-- The kernel's normalisation, from the channel's sum and its sum of squares. -/
theorem kernel_bn (g be : ℝ) (x : Fin 8 → Fin 4096 → ℝ) (b : Fin 8) (n : Fin 4096) (S Q : EReal) (hS : S = (total x : EReal))
    (hQ : Q = (total (fun b n => x b n * x b n) : EReal)) :
    max (((x b n : EReal) - Ideal.div S (Ideal.ofBits .f32 0x47000000#32))
        * (Ideal.rsqrt (Ideal.div Q (Ideal.ofBits .f32 0x47000000#32)
            - Ideal.div S (Ideal.ofBits .f32 0x47000000#32) * Ideal.div S (Ideal.ofBits .f32 0x47000000#32)
            + Ideal.ofBits .f32 0x3727C5AC#32) * (g : EReal)) + (be : EReal)) 0
      = (bn g be x b n : EReal) := by
  subst hS hQ
  have hp : 0 < var x + eps := by have := var_nonneg x; have := eps_word.2; linarith
  rw [div_count, div_count, eps_word.1, ← EReal.coe_mul, ← EReal.coe_sub, ← EReal.coe_sub]
  change max (((x b n - mean x : ℝ) : EReal)
    * (Ideal.rsqrt (((total (fun b n => x b n * x b n) / 32768 - mean x * mean x : ℝ) : EReal) + (eps : EReal)) * (g : EReal)) + (be : EReal)) 0 = _
  rw [var_eq, ← EReal.coe_add, Ideal.rsqrt_coe, if_neg hp.le.not_gt, if_neg hp.ne', ← EReal.coe_mul, ← EReal.coe_mul, ← EReal.coe_add,
    max_zero]
  unfold bn
  rw [div_eq_mul_inv, mul_assoc]

/-- The reference's normalisation, from the channel's sum and the sum of the squared differences from its mean. -/
theorem reference_bn (g be : ℝ) (x : Fin 8 → Fin 4096 → ℝ) (b : Fin 8) (n : Fin 4096) (M Q : EReal) (hM : M = (mean x : EReal))
    (hQ : Q = (total (fun b n => (x b n - mean x) * (x b n - mean x)) : EReal)) :
    max (Ideal.div ((x b n : EReal) - M)
        (Ideal.sqrt (Ideal.div Q (Ideal.ofBits .f32 0x47000000#32) + Ideal.ofBits .f32 0x3727C5AC#32)) * (g : EReal) + (be : EReal)) 0
      = (bn g be x b n : EReal) := by
  subst hM hQ
  have hp : 0 < var x + eps := by have := var_nonneg x; have := eps_word.2; linarith
  rw [div_count, eps_word.1, ← EReal.coe_sub, ← EReal.coe_add]
  change max (Ideal.div _ (Ideal.sqrt ((var x + eps : ℝ) : EReal)) * (g : EReal) + (be : EReal)) 0 = _
  rw [Ideal.sqrt_coe, if_neg hp.le.not_gt, div_real _ _ (Real.sqrt_pos.2 hp).ne', ← EReal.coe_mul, ← EReal.coe_add, max_zero]
  rfl

/-- A finite sum of real numbers, as an extended real. -/
theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

end Knn

end
-- ==== Proof.KI_Pay0.lean ====
/- The first kernel's values at an index: the row of weights of one point, and what the point leaves in the two outputs. -/
module

public import proofs.«01_k».proof.Proof.KI_Region0
public import proofs.«01_k».proof.Proof.A_Norm

@[expose] public section

set_option maxRecDepth 16384

noncomputable section

namespace Cert.KernelIdeal.Own

open Cert.KernelIdeal.Gen
open Idealize.ShloMosaic Idealize.ShloMosaic.TcCoe Knn

/-- A one-bit answer widened and read as a number is one or zero. -/
theorem flag_value (P : Prop) [Decidable P] :
    (FloatOps.sitofp .f32 (BitVec.setWidth 32 (BitVec.ofBool (decide P))) : Ideal .f32) = if P then (1 : EReal) else 0 := by
  by_cases h : P
  · simp only [h, decide_true, if_true]
    change ((((BitVec.setWidth 32 (BitVec.ofBool true)).toInt : ℤ) : ℝ) : EReal) = 1
    have : (BitVec.setWidth 32 (BitVec.ofBool true)).toInt = 1 := by decide
    rw [this]; simp
  · simp only [h, decide_false, if_false]
    change ((((BitVec.setWidth 32 (BitVec.ofBool false)).toInt : ℤ) : ℝ) : EReal) = 0
    have : (BitVec.setWidth 32 (BitVec.ofBool false)).toInt = 0 := by decide
    rw [this]; simp

/-- The named word is plus infinity. -/
theorem mask_value : (Named.named κ "mask" 0x7149F2CA#32 : Ideal .f32) = (⊤ : EReal) :=
  IdealRules.named_const.ideal_named_scalar _ _ _ _ rfl

/-- A row of a matrix. -/
def rowOf (v : FVec Ideal S512x1024 .f32) (p : Fin 512) : Fin 1024 → EReal := fun j => v (ix2 p j)

section Ops
variable {s : Shape} {φ : FTy}
/-! The elementwise operations at an index. -/
theorem divf_at (a b : FVec Ideal s φ) (i : s.Idx) : divf a b i = Ideal.div (a i) (b i) := Eq.trans rfl rfl
theorem addf_at (a b : FVec Ideal s φ) (i : s.Idx) : addf a b i = (a i : EReal) + b i := Eq.trans rfl rfl
theorem subf_at (a b : FVec Ideal s φ) (i : s.Idx) : subf a b i = (a i : EReal) - b i := Eq.trans rfl rfl
theorem mulf_at (a b : FVec Ideal s φ) (i : s.Idx) : mulf a b i = (a i : EReal) * b i := Eq.trans rfl rfl
theorem minimumf_at (a b : FVec Ideal s φ) (i : s.Idx) : minimumf a b i = min (a i : EReal) (b i) := Eq.trans rfl rfl
theorem maximumf_at (a b : FVec Ideal s φ) (i : s.Idx) : maximumf a b i = max (a i : EReal) (b i) := Eq.trans rfl rfl
theorem rsqrt_at (a : FVec Ideal s φ) (i : s.Idx) : rsqrt a i = Ideal.rsqrt (a i) := Eq.trans rfl rfl
theorem splat_at (b : BitVec φ.bits) (i : s.Idx) : broadcast s (FloatOps.ofBits (F := Ideal) φ b) i = Ideal.ofBits φ b := Eq.trans rfl rfl
end Ops

/-- A column spread over a matrix's columns. -/
theorem col_at (v : FVec Ideal S512x1 .f32) (h : S512x1.Broadcasts S512x1024) (p : Fin 512) (j : Fin 1024) :
    broadcastTo S512x1024 v h (ix2 p j) = v (ix2 p 0) := by pointwise

variable [Cert.KernelIdeal.Facts]

section First
variable (v0 : Vec Ideal S1x512x3 .f32) (v2 : Vec Ideal S1x3x1024 .f32) (p : Fin 512) (j : Fin 1024)

theorem pay5_at : k0_pay5 v0 v2 (ix2 p 0) = mn (rowOf (k0_pay4 v0 v2) p) := by
  pointwise [k0_pay5]
  simp only [inf_word, mn]
  congr 1
theorem pay7_at : k0_pay7 v0 v2 (ix2 p j) = hit (rowOf (k0_pay4 v0 v2) p) j := by
  pointwise [k0_pay7, k0_pay6]
  rw [pay5_at, flag_value]; rfl
theorem pay8_at : k0_pay8 v0 v2 (ix2 p 0) = cnt (rowOf (k0_pay4 v0 v2) p) := by
  pointwise [k0_pay8]
  simp only [pay7_at, cnt]
theorem pay9_at : k0_pay9 v0 v2 (ix2 p 0) = rcp (Ideal.ofBits .f32 0x322BCC77#32) (rowOf (k0_pay4 v0 v2) p) := by
  simp only [k0_pay9, addf_at, subf_at, mulf_at, divf_at, minimumf_at, splat_at, col_at, Ideal.ofBits_one_f32, Ideal.ofBits_zero_f32]
  rw [pay5_at]; rfl
theorem pay10_at : k0_pay10 v0 v2 (ix2 p j) = hide (rowOf (k0_pay4 v0 v2) p) j := by
  pointwise [k0_pay10, k0_pay6]
  rw [pay5_at, mask_value]; rfl
theorem pay10_row : rowOf (k0_pay10 v0 v2) p = hide (rowOf (k0_pay4 v0 v2) p) := funext fun j => pay10_at v0 v2 p j
theorem pay11_at : k0_pay11 v0 v2 (ix2 p 0) = mn (hide (rowOf (k0_pay4 v0 v2) p)) := by
  pointwise [k0_pay11]
  simp only [← pay10_row, inf_word, mn]
  congr 1
theorem pay12_at : k0_pay12 v0 v2 (ix2 p j) = mn (hide (rowOf (k0_pay4 v0 v2) p)) := by
  pointwise [k0_pay12]
  exact pay11_at v0 v2 p
end First

section Later
variable (v40 v43 : FVec Ideal S512x1024 .f32) (h : ∀ p j, v43 (ix2 p j) = mn (rowOf v40 p)) (p : Fin 512) (j : Fin 1024)
include h

theorem pay14_at : k0_pay14 v40 v43 (ix2 p j) = hit (rowOf v40 p) j := by
  pointwise [k0_pay14, k0_pay13]
  rw [h, flag_value]; rfl
theorem pay15_at : k0_pay15 v40 v43 (ix2 p 0) = cnt (rowOf v40 p) := by
  pointwise [k0_pay15]
  simp only [pay14_at v40 v43 h, cnt]
theorem pay17_at : k0_pay17 v40 v43 (ix2 p j) = hide (rowOf v40 p) j := by
  pointwise [k0_pay17, k0_pay13]
  rw [h, mask_value]; rfl
theorem pay17_row : rowOf (k0_pay17 v40 v43) p = hide (rowOf v40 p) := funext fun j => pay17_at v40 v43 h p j
theorem pay18_at : k0_pay18 v40 v43 (ix2 p 0) = mn (hide (rowOf v40 p)) := by
  pointwise [k0_pay18]
  simp only [← pay17_row v40 v43 h, inf_word, mn]
  congr 1
theorem pay19_at : k0_pay19 v40 v43 (ix2 p j) = hit (hide (rowOf v40 p)) j := by
  pointwise [k0_pay19]
  rw [pay18_at v40 v43 h, flag_value, pay17_at v40 v43 h]; rfl
theorem pay20_at : k0_pay20 v40 v43 (ix2 p 0) = cnt (hide (rowOf v40 p)) := by
  pointwise [k0_pay20]
  simp only [pay19_at v40 v43 h, cnt]
theorem pay21_at : k0_pay21 v40 v43 (ix2 p 0) = rcp (Ideal.ofBits .f32 0x322BCC77#32) (hide (rowOf v40 p)) := by
  simp only [k0_pay21, addf_at, subf_at, mulf_at, divf_at, minimumf_at, splat_at, col_at, Ideal.ofBits_one_f32, Ideal.ofBits_zero_f32]
  rw [pay18_at v40 v43 h]; rfl
end Later

section Blocks
variable (x0 : Vec Ideal S1x512x3 .f32) (x1 : Vec Ideal S1x3x1024 .f32) (x2 : Vec Ideal S1x128x512 .f32) (x3 : Vec Ideal S1x256x1024 .f32)
  (x4 : Vec Ideal S128x256 .f32) (x5 : Vec Ideal S256x256 .f32) (p : Fin 512) (j : Fin 1024) (o : Fin 256)

/-- Offsets that are all zero, as the constant function. -/
theorem off3 : (![0, 0, 0] : Fin 3 → ℕ) = fun _ => 0 := by funext a; fin_cases a <;> rfl
theorem off2 : (![0, 0] : Fin 2 → ℕ) = fun _ => 0 := by funext a; fin_cases a <;> rfl
theorem off4 : (![0, 0, 0, 0] : Fin 4 → ℕ) = fun _ => 0 := by funext a; fin_cases a <;> rfl

theorem ld0_0 : View.ld x0 r0_0 = x0 := View.ld_unit_zero off3 _ _
theorem ld0_1 : View.ld x1 r0_1 = x1 := View.ld_unit_zero off3 _ _
theorem ld0_2 : View.ld x3 r0_2 = x3 := View.ld_unit_zero off3 _ _
theorem ld0_3 : View.ld x2 r0_3 = x2 := View.ld_unit_zero off3 _ _
theorem ld0_4 : View.ld x4 r0_4 = x4 := View.ld_unit_zero off2 _ _
theorem ld0_5 : View.ld x5 r0_5 = x5 := View.ld_unit_zero off2 _ _

/-- The squared distances from one point, as the kernel computes them. -/
def dist0 (x0 : Vec Ideal S1x512x3 .f32) (x1 : Vec Ideal S1x3x1024 .f32) (p : Fin 512) : Fin 1024 → EReal := rowOf (k0_pay4 x0 x1) p

theorem val28_at : st1_val28 x0 x1 x2 x3 x4 x5 (ix2 p 0) = cnt (dist0 x0 x1 p) := by
  unfold st1_val28; rw [ld0_0, ld0_1, pay8_at]; rfl
theorem val29_at : st1_val29 x0 x1 x2 x3 x4 x5 (ix2 p 0) = rcp (Ideal.ofBits .f32 0x322BCC77#32) (dist0 x0 x1 p) := by
  unfold st1_val29; rw [ld0_0, ld0_1, pay9_at]; rfl
theorem val30_row : rowOf (st1_val30 x0 x1 x2 x3 x4 x5) p = hide (dist0 x0 x1 p) := by
  unfold st1_val30; rw [ld0_0, ld0_1, pay10_row]; rfl
theorem val31_at : st1_val31 x0 x1 x2 x3 x4 x5 (ix2 p 0) = mn (hide (dist0 x0 x1 p)) := by
  unfold st1_val31; rw [ld0_0, ld0_1, pay11_at]; rfl
theorem val32_at : st1_val32 x0 x1 x2 x3 x4 x5 (ix2 p j) = mn (rowOf (st1_val30 x0 x1 x2 x3 x4 x5) p) := by
  rw [val30_row]; unfold st1_val32; rw [ld0_0, ld0_1, pay12_at]; rfl
theorem val33_at : st1_val33 x0 x1 x2 x3 x4 x5 (ix2 p j) = hit (hide (dist0 x0 x1 p)) j := by
  unfold st1_val33; rw [pay14_at _ _ (val32_at x0 x1 x2 x3 x4 x5), val30_row]
theorem val34_at : st1_val34 x0 x1 x2 x3 x4 x5 (ix2 p j) = hit (hide (hide (dist0 x0 x1 p))) j := by
  unfold st1_val34; rw [pay19_at _ _ (val32_at x0 x1 x2 x3 x4 x5), val30_row]
theorem val35_at : st1_val35 x0 x1 x2 x3 x4 x5 (ix2 p 0) = cnt (hide (hide (dist0 x0 x1 p))) := by
  unfold st1_val35; rw [pay20_at _ _ (val32_at x0 x1 x2 x3 x4 x5), val30_row]
theorem val36_at : st1_val36 x0 x1 x2 x3 x4 x5 (ix2 p 0) = rcp (Ideal.ofBits .f32 0x322BCC77#32) (hide (hide (dist0 x0 x1 p))) := by
  unfold st1_val36; rw [pay21_at _ _ (val32_at x0 x1 x2 x3 x4 x5), val30_row]
theorem pay22_at : k0_pay22 (st1_val28 x0 x1 x2 x3 x4 x5) (ix2 p 0) = take1 (dist0 x0 x1 p) := by
  simp only [k0_pay22, addf_at, subf_at, mulf_at, divf_at, minimumf_at, splat_at, col_at, Ideal.ofBits_one_f32, Ideal.ofBits_zero_f32]
  rw [val28_at, three_word]; rfl
theorem pay23_at : k0_pay23 (st1_val28 x0 x1 x2 x3 x4 x5) (st1_val30 x0 x1 x2 x3 x4 x5) (st1_val32 x0 x1 x2 x3 x4 x5) (ix2 p 0) = take2 (dist0 x0 x1 p) := by
  simp only [k0_pay23, addf_at, subf_at, mulf_at, divf_at, minimumf_at, splat_at, col_at, Ideal.ofBits_one_f32, Ideal.ofBits_zero_f32]
  rw [pay22_at, three_word, pay15_at _ _ (val32_at x0 x1 x2 x3 x4 x5), val30_row]; rfl
theorem pay24_at : k0_pay24 (st1_val28 x0 x1 x2 x3 x4 x5) (st1_val30 x0 x1 x2 x3 x4 x5) (st1_val32 x0 x1 x2 x3 x4 x5) (ix2 p 0) = take3 (dist0 x0 x1 p) := by
  simp only [k0_pay24, addf_at, subf_at, mulf_at, divf_at, minimumf_at, splat_at, col_at, Ideal.ofBits_one_f32, Ideal.ofBits_zero_f32]
  rw [pay22_at, pay23_at, three_word, pay20_at _ _ (val32_at x0 x1 x2 x3 x4 x5), val30_row]; rfl
theorem pay16_at : k0_pay16 (st1_val31 x0 x1 x2 x3 x4 x5) (ix2 p 0) = rcp (Ideal.ofBits .f32 0x322BCC77#32) (hide (dist0 x0 x1 p)) := by
  simp only [k0_pay16, addf_at, subf_at, mulf_at, divf_at, minimumf_at, splat_at, col_at, Ideal.ofBits_one_f32, Ideal.ofBits_zero_f32]
  rw [val31_at]; rfl
theorem val38_at : st1_val38 x0 x1 x2 x3 x4 x5 (ix2 p 0) = norm3 (Ideal.ofBits .f32 0x322BCC77#32) (dist0 x0 x1 p) := by
  unfold st1_val38
  simp only [k0_pay25, addf_at, subf_at, mulf_at, divf_at, minimumf_at, splat_at, col_at, Ideal.ofBits_one_f32, Ideal.ofBits_zero_f32]
  rw [pay22_at, pay23_at, pay24_at, pay16_at, val29_at, pay21_at _ _ (val32_at x0 x1 x2 x3 x4 x5), val30_row]; rfl
theorem val39_at : st1_val39 x0 x1 x2 x3 x4 x5 (ix2 p j)
    = 0 + hit (dist0 x0 x1 p) j * Ideal.div (rcp (Ideal.ofBits .f32 0x322BCC77#32) (dist0 x0 x1 p) * take1 (dist0 x0 x1 p))
        (cnt (dist0 x0 x1 p) * norm3 (Ideal.ofBits .f32 0x322BCC77#32) (dist0 x0 x1 p)) := by
  unfold st1_val39
  have hN := val38_at x0 x1 x2 x3 x4 x5 p
  unfold st1_val38 at hN
  rw [ld0_0, ld0_1]
  simp only [k0_pay26, addf_at, subf_at, mulf_at, divf_at, minimumf_at, splat_at, col_at, Ideal.ofBits_one_f32, Ideal.ofBits_zero_f32]
  rw [hN, pay22_at, val29_at, val28_at, pay7_at]; rfl
theorem val40_at : st1_val40 x0 x1 x2 x3 x4 x5 (ix2 p j)
    = Ideal.div (rcp (Ideal.ofBits .f32 0x322BCC77#32) (hide (dist0 x0 x1 p)) * take2 (dist0 x0 x1 p))
        (cnt (hide (dist0 x0 x1 p)) * norm3 (Ideal.ofBits .f32 0x322BCC77#32) (dist0 x0 x1 p)) := by
  unfold st1_val40
  have hN := val38_at x0 x1 x2 x3 x4 x5 p
  unfold st1_val38 at hN
  simp only [k0_pay27, addf_at, subf_at, mulf_at, divf_at, minimumf_at, splat_at, col_at, Ideal.ofBits_one_f32, Ideal.ofBits_zero_f32]
  rw [hN, pay23_at, pay16_at, pay15_at _ _ (val32_at x0 x1 x2 x3 x4 x5), val30_row]

/-- The first layer's pre-activation at one grid point, as the kernel computes it. -/
def xval (x0 : Vec Ideal S1x512x3 .f32) (x1 : Vec Ideal S1x3x1024 .f32) (x2 : Vec Ideal S1x128x512 .f32) (x3 : Vec Ideal S1x256x1024 .f32)
    (x4 : Vec Ideal S128x256 .f32) (x5 : Vec Ideal S256x256 .f32) : FVec Ideal S512x256 .f32 :=
  k0_pay1 (st1_val33 x0 x1 x2 x3 x4 x5) (st1_val34 x0 x1 x2 x3 x4 x5) (st1_val35 x0 x1 x2 x3 x4 x5) (st1_val36 x0 x1 x2 x3 x4 x5) (st1_val37 x0 x1 x2 x3 x4 x5) (st1_val38 x0 x1 x2 x3 x4 x5) (st1_val39 x0 x1 x2 x3 x4 x5) (st1_val40 x0 x1 x2 x3 x4 x5) (View.ld x3 r0_2) (View.ld x2 r0_3) (View.ld x4 r0_4) (View.ld x5 r0_5)

/-- It is the point's own features and its neighbours' features in their shares, each through its half of the layer's weights. -/
theorem xval_at : xval x0 x1 x2 x3 x4 x5 (ix2 p o)
    = (∑ i : Fin 128, x2 (ix3 0 i p) * x4 (ix2 i o))
      + ∑ m : Fin 256, (∑ j : Fin 1024, weight (Ideal.ofBits .f32 0x322BCC77#32) (dist0 x0 x1 p) j * x3 (ix3 0 m j)) * x5 (ix2 m o) := by
  unfold xval
  rw [ld0_2, ld0_3, ld0_4, ld0_5]
  have h37 : st1_val37 x0 x1 x2 x3 x4 x5 (ix2 p 0) = _ := pay24_at x0 x1 x2 x3 x4 x5 p
  pointwise [k0_pay1]
  simp only [h37, val33_at, val34_at, val35_at, val36_at, val38_at, val39_at, val40_at]
  rfl

/-- What the grid point leaves in the first output, -/
theorem out6_at : out0_6 x0 x1 x2 x3 x4 x5 (ix3 0 p o) = xval x0 x1 x2 x3 x4 x5 (ix2 p o) := by
  unfold out0_6 xval
  rw [View.canon_unit_zero off3]
  pointwise [k0_pay2]

/-- and in the second: the sums over its points of the values -/
theorem out7_at0 : out0_7 x0 x1 x2 x3 x4 x5 (ix4 0 0 0 o) = ∑ p, xval x0 x1 x2 x3 x4 x5 (ix2 p o) := by
  unfold out0_7 xval
  rw [View.canon_unit_zero off4]
  pointwise [k0_pay3]

/-- and of their squares. -/
theorem out7_at1 : out0_7 x0 x1 x2 x3 x4 x5 (ix4 0 0 1 o) = ∑ p, xval x0 x1 x2 x3 x4 x5 (ix2 p o) * xval x0 x1 x2 x3 x4 x5 (ix2 p o) := by
  unfold out0_7 xval
  rw [View.canon_unit_zero off4]
  pointwise [k0_pay3]

end Blocks

end Cert.KernelIdeal.Own

end
-- ==== Proof.KI_Val0.lean ====
/- The first kernel's two result arrays, from its operands. -/
module

public import proofs.«01_k».proof.Proof.KI_Pay0
public import Idealize.ShloMosaic.Lib.Pipeline.ValueKit.Geometry

@[expose] public section

set_option maxRecDepth 16384

noncomputable section

namespace Cert.KernelIdeal.Own

open Cert.KernelIdeal.Gen
open Idealize.ShloMosaic Idealize.ShloMosaic.TcCoe Knn
open Idealize.ShloMosaic.Pipeline (Dat Cfg Window)

/-- The squared distance of two points by its expansion. -/
def dst (u w : Fin 3 → EReal) : EReal :=
  Ideal.ofBits .f32 0xC0000000#32 * (∑ x : Fin 3, u x * w x) + (u 0 * u 0 + u 1 * u 1 + u 2 * u 2) + (w 0 * w 0 + w 1 * w 1 + w 2 * w 2)

/-! Where each window's block lies at a grid point. -/
theorem i0 : ∀ t : Fin cfg0.N, win0_0.index t = ![t.val / 8, t.val % 8, 0] :=
  (by decide +kernel : ∀ t : Fin grid0.N, win0_0.index t = ![t.val / 8, t.val % 8, 0])
theorem i1 : ∀ t : Fin cfg0.N, win0_1.index t = ![t.val / 8, 0, 0] :=
  (by decide +kernel : ∀ t : Fin grid0.N, win0_1.index t = ![t.val / 8, 0, 0])
theorem i2 : ∀ t : Fin cfg0.N, win0_2.index t = ![t.val / 8, 0, t.val % 8] :=
  (by decide +kernel : ∀ t : Fin grid0.N, win0_2.index t = ![t.val / 8, 0, t.val % 8])
theorem i3 : ∀ t : Fin cfg0.N, win0_3.index t = ![t.val / 8, 0, 0] :=
  (by decide +kernel : ∀ t : Fin grid0.N, win0_3.index t = ![t.val / 8, 0, 0])
theorem i4 : ∀ t : Fin cfg0.N, win0_4.index t = ![0, 0] :=
  (by decide +kernel : ∀ t : Fin grid0.N, win0_4.index t = ![0, 0])
theorem i5 : ∀ t : Fin cfg0.N, win0_5.index t = ![0, 0] :=
  (by decide +kernel : ∀ t : Fin grid0.N, win0_5.index t = ![0, 0])
theorem i6 : ∀ t : Fin cfg0.N, win0_6.index t = ![t.val / 8, t.val % 8, 0] :=
  (by decide +kernel : ∀ t : Fin grid0.N, win0_6.index t = ![t.val / 8, t.val % 8, 0])
theorem i7 : ∀ t : Fin cfg0.N, win0_7.index t = ![t.val / 8, t.val % 8, 0, 0] :=
  (by decide +kernel : ∀ t : Fin grid0.N, win0_7.index t = ![t.val / 8, t.val % 8, 0, 0])

theorem N_0 : cfg0.N = 64 := (by decide +kernel : grid0.N = 64)

variable [Cert.KernelIdeal.Facts]

/-- The distances from a block's point are the expanded ones. -/
theorem dist0_eq (x0 : Vec Ideal S1x512x3 .f32) (x1 : Vec Ideal S1x3x1024 .f32) (p : Fin 512) :
    dist0 x0 x1 p = fun j => dst (fun a => x0 (ix3 0 p a)) (fun a => x1 (ix3 0 a j)) := by
  funext j
  unfold dist0 rowOf dst
  pointwise [k0_pay4]

/-- The first layer's pre-activation at a point and a channel, from the whole arrays. -/
def xv (T : Vec Ideal S8x4096x3 .f32) (B : Vec Ideal S8x3x1024 .f32) (f1 : Vec Ideal S8x128x4096 .f32) (f2 : Vec Ideal S8x256x1024 .f32)
    (wa : Vec Ideal S128x256 .f32) (wb : Vec Ideal S256x256 .f32) (b : Fin 8) (n : Fin 4096) (o : Fin 256) : EReal :=
  (∑ i : Fin 128, f1 (ix3 b i n) * wa (ix2 i o))
    + ∑ m : Fin 256, (∑ j : Fin 1024, weight (Ideal.ofBits .f32 0x322BCC77#32)
        (fun j => dst (fun a => T (ix3 b n a)) (fun a => B (ix3 b a j))) j * f2 (ix3 b m j)) * wb (ix2 m o)

variable (V : (c : Dev nD) → (b : Ref sig .tc) → Buf (Elt Ideal) ((c : Thread nD τ).loc b)) (c : Dev nD)

/-- The value the first kernel stores at a point and a channel. -/
def xV (b : Fin 8) (n : Fin 4096) (o : Fin 256) : EReal :=
  xv (V c main_v0) (V c main_arg3) (V c main_arg0) (V c main_arg2) (V c main_v2) (V c main_v4) b n o

/-- The image of a grid point. -/
def ptB (t : Fin cfg0.N) : Fin 8 := ⟨t.val / 8, by have := t.isLt; have h := N_0; omega⟩
/-- The row a place of a grid point's block holds. -/
def ptRow (t : Fin cfg0.N) (p : Fin 512) : Fin 4096 := ⟨t.val % 8 * 512 + p.val, by omega⟩

theorem blk0_at (t : Fin cfg0.N) (p : Fin 512) (a : Fin 3) : iblk0 V c 0 t (ix3 0 p a) = V c main_v0 (ix3 (ptB t) (ptRow t p) a) := by
  blk_simp [iblk0]
  blk_ext [i0, ptB, ptRow]
theorem blk1_at (t : Fin cfg0.N) (a : Fin 3) (j : Fin 1024) : iblk0 V c 1 t (ix3 0 a j) = V c main_arg3 (ix3 (ptB t) a j) := by
  blk_simp [iblk0]
  blk_ext [i1, ptB, ptRow]
theorem blk2_at (t : Fin cfg0.N) (i : Fin 128) (p : Fin 512) : iblk0 V c 2 t (ix3 0 i p) = V c main_arg0 (ix3 (ptB t) i (ptRow t p)) := by
  blk_simp [iblk0]
  blk_ext [i2, ptB, ptRow]
theorem blk3_at (t : Fin cfg0.N) (m : Fin 256) (j : Fin 1024) : iblk0 V c 3 t (ix3 0 m j) = V c main_arg2 (ix3 (ptB t) m j) := by
  blk_simp [iblk0]
  blk_ext [i3, ptB, ptRow]
theorem blk4_at (t : Fin cfg0.N) (i : Fin 128) (o : Fin 256) : iblk0 V c 4 t (ix2 i o) = V c main_v2 (ix2 i o) := by
  blk_simp [iblk0]
  blk_ext [i4]
theorem blk5_at (t : Fin cfg0.N) (m : Fin 256) (o : Fin 256) : iblk0 V c 5 t (ix2 m o) = V c main_v4 (ix2 m o) := by
  blk_simp [iblk0]
  blk_ext [i5]

/-- A block's value at its place is the arrays' value there. -/
theorem xval_blk (t : Fin cfg0.N) (p : Fin 512) (o : Fin 256) :
    xval (iblk0 V c 0 t) (iblk0 V c 1 t) (iblk0 V c 2 t) (iblk0 V c 3 t) (iblk0 V c 4 t) (iblk0 V c 5 t) (ix2 p o) = xV V c (ptB t) (ptRow t p) o := by
  rw [xval_at, dist0_eq]
  simp only [blk0_at, blk1_at, blk2_at, blk3_at, blk4_at, blk5_at, xV, xv]

/-- The first result array holds the values, -/
theorem arr6 : (dat0 V c).arrAt 6 cfg0.N = fun i => xV V c (i 0) (i 1) (i 2) := by
  refine (dat0 V c).arrAt_eq_of_covers 6 _ (by decide +kernel) fun t hf y => ?_
  blk_simp
  rw [after0_6]
  obtain ⟨p, o, rfl⟩ : ∃ (p : Fin 512) (o : Fin 256), y = ix3 0 p o := ⟨y 1, y 2, by blk_ext⟩
  have e : (win0_6.blk t).view.emb (ix3 0 p o) = ix3 (ptB t) (ptRow t p) o := by blk_ext [i6, ptB, ptRow]
  rw [e]
  exact (out6_at _ _ _ _ _ _ p o).trans (xval_blk V c t p o)

/-- The statistics of a block: its sum, then its sum of squares. -/
def statV (b n : Fin 8) (s : Fin 2) (o : Fin 256) : EReal :=
  if s = 0 then ∑ p : Fin 512, xV V c b ⟨n.val * 512 + p.val, by omega⟩ o
  else ∑ p : Fin 512, xV V c b ⟨n.val * 512 + p.val, by omega⟩ o * xV V c b ⟨n.val * 512 + p.val, by omega⟩ o

theorem statV_0 (b n : Fin 8) (o : Fin 256) : statV V c b n 0 o = ∑ p : Fin 512, xV V c b ⟨n.val * 512 + p.val, by omega⟩ o := if_pos rfl
theorem statV_1 (b n : Fin 8) (o : Fin 256) : statV V c b n 1 o
    = ∑ p : Fin 512, xV V c b ⟨n.val * 512 + p.val, by omega⟩ o * xV V c b ⟨n.val * 512 + p.val, by omega⟩ o := if_neg (by decide)

theorem out7_blk (t : Fin cfg0.N) (s : Fin 2) (o : Fin 256) :
    out0_7 (iblk0 V c 0 t) (iblk0 V c 1 t) (iblk0 V c 2 t) (iblk0 V c 3 t) (iblk0 V c 4 t) (iblk0 V c 5 t) (ix4 0 0 s o)
      = statV V c (ptB t) ⟨t.val % 8, by omega⟩ s o := by
  match s with
  | 0 =>
    rw [statV_0, out7_at0]
    simp only [xval_blk]
    rfl
  | 1 =>
    rw [statV_1, out7_at1]
    simp only [xval_blk]
    rfl

/-- and the second the statistics of each block. -/
theorem arr7 : (dat0 V c).arrAt 7 cfg0.N = fun i => statV V c (i 0) (i 1) (i 2) (i 3) := by
  refine (dat0 V c).arrAt_eq_of_covers 7 _ (by decide +kernel) fun t hf y => ?_
  blk_simp
  rw [after0_7]
  obtain ⟨s, o, rfl⟩ : ∃ (s : Fin 2) (o : Fin 256), y = ix4 0 0 s o := ⟨y 2, y 3, by blk_ext⟩
  have e : (win0_7.blk t).view.emb (ix4 0 0 s o) = ix4 (ptB t) (⟨t.val % 8, by omega⟩ : Fin 8) s o := by blk_ext [i7, ptB]
  rw [e]
  exact out7_blk V c t s o

end Cert.KernelIdeal.Own

end
-- ==== Proof.A_Sum.lean ====
/- Sums over two axes at once, where the kept axes are not the leading ones. -/
module

public import Idealize.ShloMosaic.Lib.Pointwise

@[expose] public section

noncomputable section

namespace Knn

open Idealize.ShloMosaic

/-- Summing the two leading axes of a rank-4 array. -/
theorem sum_front {n0 n1 n2 n3 : Nat} (h : (⟨4, ![n0, n1, n2, n3]⟩ : Shape).Reduces [0, 1] ⟨2, ![n2, n3]⟩)
    (v : (⟨4, ![n0, n1, n2, n3]⟩ : Shape).Idx → EReal) (s : Fin n2) (o : Fin n3) :
    Ideal.reduceAdd h v (ix2 s o) = ∑ b : Fin n0, ∑ n : Fin n1, v (ix4 b n s o) := by
  refine (Finset.sum_filter_eq_sum_of_fiber _ (fun k : Fin n0 × Fin n1 => ix4 k.1 k.2 s o)
    (fun _ _ e => Prod.ext (congrFun e 0) (congrFun e 1)) (fun i => ?_) v).trans ?_
  · constructor
    · intro e
      refine ⟨(i 0, i 1), ?_⟩
      have e0 := congrArg Fin.val (congrFun e 0)
      have e1 := congrArg Fin.val (congrFun e 1)
      funext a; apply Fin.ext
      match a with
      | ⟨0, _⟩ => rfl
      | ⟨1, _⟩ => rfl
      | ⟨2, _⟩ => exact e0.symm
      | ⟨3, _⟩ => exact e1.symm
    · rintro ⟨k, rfl⟩
      funext b; apply Fin.ext
      match b with
      | ⟨0, _⟩ => rfl
      | ⟨1, _⟩ => rfl
  · simp only [Fintype.sum_prod_type]

/-- Summing the first and the last axis of a rank-3 array on the host. -/
theorem sum_ends {n0 n1 n2 : Nat} (h : (⟨3, ![n0, n1, n2]⟩ : Shape).ReducesTo [0, 2] ⟨1, ![n1]⟩)
    (v : (⟨3, ![n0, n1, n2]⟩ : Shape).Idx → EReal) (init : EReal) (o : Fin n1) :
    Ideal.hostReduceAdd h v init (ix1 o) = init + ∑ b : Fin n0, ∑ n : Fin n2, v (ix3 b o n) := by
  refine congrArg (init + ·) ((Finset.sum_filter_eq_sum_of_fiber _ (fun k : Fin n0 × Fin n2 => ix3 k.1 o k.2)
    (fun _ _ e => Prod.ext (congrFun e 0) (congrFun e 2)) (fun i => ?_) v).trans ?_)
  · constructor
    · intro e
      refine ⟨(i 0, i 2), ?_⟩
      have e0 := congrArg Fin.val (congrFun e 0)
      funext a; apply Fin.ext
      match a with
      | ⟨0, _⟩ => rfl
      | ⟨1, _⟩ => exact e0.symm
      | ⟨2, _⟩ => rfl
    · rintro ⟨k, rfl⟩
      funext b; apply Fin.ext
      match b with
      | ⟨0, _⟩ => rfl
  · simp only [Fintype.sum_prod_type]

end Knn

end
-- ==== Proof.KI_Pay1.lean ====
/- The second kernel's values at an index. -/
module

public import proofs.«01_k».proof.Proof.KI_Data1
public import proofs.«01_k».proof.Proof.KI_Pay0
public import proofs.«01_k».proof.Proof.A_Sum

@[expose] public section

set_option maxRecDepth 16384

noncomputable section

namespace Cert.KernelIdeal.Own

open Cert.KernelIdeal.Gen
open Idealize.ShloMosaic Idealize.ShloMosaic.TcCoe Knn

variable [Cert.KernelIdeal.Facts]

/-- One value of a channel normalised from the channel's sum `S` and its sum of squares `Q`, scaled, shifted and clamped at zero. -/
def norm1 (x S Q g be : EReal) : EReal :=
  max ((x - Ideal.div S (Ideal.ofBits .f32 0x47000000#32))
      * (Ideal.rsqrt (Ideal.div Q (Ideal.ofBits .f32 0x47000000#32)
          - Ideal.div S (Ideal.ofBits .f32 0x47000000#32) * Ideal.div S (Ideal.ofBits .f32 0x47000000#32)
          + Ideal.ofBits .f32 0x3727C5AC#32) * g) + be) 0

section Shapes
variable (p : Fin 2048) (q : Fin 128) (o : Fin 256)
/-! The second kernel's shape operations at an index. -/
theorem row128_at (v : FVec Ideal S1x128 .f32) (h : S1x128.Broadcasts S2048x128) : broadcastTo S2048x128 v h (ix2 p q) = v (ix2 0 q) := by pointwise
theorem row256_at (v : FVec Ideal S1x256 .f32) (h : S1x256.Broadcasts S2048x256) : broadcastTo S2048x256 v h (ix2 p o) = v (ix2 0 o) := by pointwise
theorem half0_at (v : FVec Ideal S2x128 .f32) (h : S2x128.Slices ![0, 0] S1x128) : extractStridedSlice S1x128 ![0, 0] v h (ix2 0 q) = v (ix2 0 q) := by pointwise
theorem half1_at (v : FVec Ideal S2x128 .f32) (h : S2x128.Slices ![1, 0] S1x128) : extractStridedSlice S1x128 ![1, 0] v h (ix2 0 q) = v (ix2 1 q) := by pointwise
theorem half0'_at (v : FVec Ideal S2x256 .f32) (h : S2x256.Slices ![0, 0] S1x256) : extractStridedSlice S1x256 ![0, 0] v h (ix2 0 o) = v (ix2 0 o) := by pointwise
theorem half1'_at (v : FVec Ideal S2x256 .f32) (h : S2x256.Slices ![1, 0] S1x256) : extractStridedSlice S1x256 ![1, 0] v h (ix2 0 o) = v (ix2 1 o) := by pointwise
theorem same128_at (v : FVec Ideal S1x128 .f32) (h : S1x128.ShapeCasts S1x128) : shapeCast S1x128 v h (ix2 0 q) = v (ix2 0 q) := by pointwise
theorem same256_at (v : FVec Ideal S1x256 .f32) (h : S1x256.ShapeCasts S1x256) : shapeCast S1x256 v h (ix2 0 o) = v (ix2 0 o) := by pointwise
theorem drop_at (v : FVec Ideal S1x2048x128 .f32) (h : S1x2048x128.ShapeCasts S2048x128) : shapeCast S2048x128 v h (ix2 p q) = v (ix3 0 p q) := by pointwise
theorem drop'_at (v : FVec Ideal S1x2048x256 .bf16) (h : S1x2048x256.ShapeCasts S2048x256) (hb) :
    extf .f32 (shapeCast S2048x256 v h) hb (ix2 p o) = v (ix3 0 p o) := by pointwise
theorem turn_at (v : FVec Ideal S2048x128 .f32) (ht : S2048x128.Transposes [1, 0] S128x2048) (h : S128x2048.ShapeCasts S1x128x2048) :
    shapeCast S1x128x2048 (transpose S128x2048 [1, 0] v ht) h (ix3 0 q p) = v (ix2 p q) := by pointwise
theorem mm_at (a : FVec Ideal S2048x256 .f32) (w : FVec Ideal S256x128 .f32) (h : S256x128.ShapeCasts S256x128) :
    matmul dot_S2048x256_S256x128_S2048x128_1_0_0_1_n_n none a (shapeCast S256x128 w h) (constant S2048x128 .f32 0x00000000#32) (ix2 p q)
      = ∑ o : Fin 256, (a (ix2 p o) : EReal) * w (ix2 o q) := by pointwise
theorem stats_at (v : FVec Ideal S8x8x2x256 .f32) (h : S8x8x2x256.ShapeCasts S8x8x2x256) (hr : S8x8x2x256.Reduces [0, 1] S2x256) (z : BitVec 32) (hφ) (hacc) (s : Fin 2) :
    multiReduction .add [0, 1] S2x256 (shapeCast S8x8x2x256 v h) z hr hφ hacc (ix2 s o)
      = ∑ b : Fin 8, ∑ n : Fin 8, (v (ix4 b n s o) : EReal) := by
  refine (sum_front hr _ s o).trans ?_
  pointwise
end Shapes

section Values
variable (v8 : Vec Ideal S1x2048x256 .bf16) (v11 : Vec Ideal S8x8x2x256 .f32) (v27 v32 : Vec Ideal S1x256 .f32) (v38 : Vec Ideal S256x128 .f32)
  (p : Fin 2048) (q : Fin 128)

theorem kpay5_at : k1_pay5 v8 v11 v27 v32 v38 (ix2 p q)
    = ∑ o : Fin 256, norm1 (v8 (ix3 0 p o)) (∑ b : Fin 8, ∑ n : Fin 8, v11 (ix4 b n 0 o)) (∑ b : Fin 8, ∑ n : Fin 8, v11 (ix4 b n 1 o))
        (v27 (ix2 0 o)) (v32 (ix2 0 o)) * v38 (ix2 o q) := by
  simp only [k1_pay5, mm_at, maximumf_at, addf_at, mulf_at, subf_at, divf_at, rsqrt_at, splat_at, row256_at, half0'_at, half1'_at, same256_at,
    drop'_at, Ideal.ofBits_zero_f32, norm1]
  refine Finset.sum_congr rfl fun x _ => ?_
  have e := fun s => stats_at x v11 shapeCasts_S8x8x2x256_S8x8x2x256 reduces_S8x8x2x256_S2x256 0#32 (.inl rfl) rfl s
  rw [← e 0, ← e 1]
theorem kpay6_at : k1_pay6 v8 v11 v27 v32 v38 (ix3 0 p q) = k1_pay5 v8 v11 v27 v32 v38 (ix2 p q) := by
  pointwise [k1_pay6]
theorem kpay4_at (S : Vec Ideal S2x128 .f32) (y : Vec Ideal S1x2048x128 .f32) (g be : Vec Ideal S1x128 .f32) :
    k1_pay4 S y g be (ix3 0 q p) = norm1 (y (ix3 0 p q)) (S (ix2 0 q)) (S (ix2 1 q)) (g (ix2 0 q)) (be (ix2 0 q)) := by
  unfold k1_pay4
  rw [turn_at]
  simp only [maximumf_at, addf_at, mulf_at, subf_at, divf_at, rsqrt_at, splat_at, row128_at, half0_at, half1_at, same128_at,
    drop_at, Ideal.ofBits_zero_f32, norm1]
theorem kpay1_at0 (y : FVec Ideal S2048x128 .f32) : k1_pay1 y (ix2 0 q) = ∑ p : Fin 2048, (y (ix2 p q) : EReal) := by
  pointwise [k1_pay1]
theorem kpay1_at1 (y : FVec Ideal S2048x128 .f32) : k1_pay1 y (ix2 1 q) = ∑ p : Fin 2048, (y (ix2 p q) : EReal) * y (ix2 p q) := by
  pointwise [k1_pay1]
end Values

section Blocks
variable (x0 : Vec Ideal S1x2048x256 .bf16) (x1 : Vec Ideal S8x8x2x256 .f32) (x2 x3 : Vec Ideal S1x256 .f32) (x4 : Vec Ideal S256x128 .f32)
  (p : Fin 2048) (q : Fin 128)

theorem yval_at : yval x0 x1 x2 x3 x4 (ix2 p q)
    = ∑ o : Fin 256, norm1 (x0 (ix3 0 p o)) (∑ b : Fin 8, ∑ n : Fin 8, x1 (ix4 b n 0 o)) (∑ b : Fin 8, ∑ n : Fin 8, x1 (ix4 b n 1 o))
        (x2 (ix2 0 o)) (x3 (ix2 0 o)) * x4 (ix2 o q) := by
  unfold yval
  rw [View.ld_unit_zero off3, View.ld_unit_zero off4, View.ld_unit_zero off2, View.ld_unit_zero off2, View.ld_unit_zero off2, kpay5_at]
theorem yslab_at : yslab x0 x1 x2 x3 x4 (ix3 0 p q) = yval x0 x1 x2 x3 x4 (ix2 p q) := by
  unfold yslab yval
  rw [kpay6_at]
theorem sfirst_eq (y : FVec Ideal S2048x128 .f32) : sfirst y = k1_pay1 y := by
  unfold sfirst k1_pay2
  rw [View.canon_unit_zero off2]
  funext i; idx_vars i; pointwise
theorem snext_at (y : FVec Ideal S2048x128 .f32) (S : Vec Ideal S2x128 .f32) (s : Fin 2) :
    snext y S (ix2 s q) = (S (ix2 s q) : EReal) + k1_pay1 y (ix2 s q) := by
  unfold snext k1_pay3
  rw [View.canon_unit_zero off2, View.ld_unit_zero off2]
  pointwise
theorem oval_at (S : Vec Ideal S2x128 .f32) (y : FVec Ideal S1x2048x128 .f32) (x5 x6 : Vec Ideal S1x128 .f32) :
    oval S y x5 x6 (ix3 0 q p) = norm1 (y (ix3 0 p q)) (S (ix2 0 q)) (S (ix2 1 q)) (x5 (ix2 0 q)) (x6 (ix2 0 q)) := by
  unfold oval
  rw [View.canon_unit_zero off3, View.ld_unit_zero off2, View.ld_unit_zero off2, View.ld_unit_zero off2, kpay4_at]
end Blocks

section Sums
variable (V : (c : Dev nD) → (b : Ref sig .tc) → Buf (Elt Ideal) ((c : Thread nD τ).loc b)) (c : Dev nD) (q : Fin 128)

/-- The running sums after point `n`, -/
theorem sumAt_0 (n : ℕ) : sumAt V c n (ix2 0 q) = ∑ k ∈ Finset.range (n + 1), ∑ p : Fin 2048, (yAt V c (pt1 k) (ix2 p q) : EReal) := by
  induction n with
  | zero => rw [sumAt, sfirst_eq, kpay1_at0, Finset.sum_range_one]
  | succ n ih => rw [sumAt, snext_at, ih, kpay1_at0, Finset.sum_range_succ _ (n + 1)]
/-- and the running sums of squares. -/
theorem sumAt_1 (n : ℕ) : sumAt V c n (ix2 1 q)
    = ∑ k ∈ Finset.range (n + 1), ∑ p : Fin 2048, (yAt V c (pt1 k) (ix2 p q) : EReal) * yAt V c (pt1 k) (ix2 p q) := by
  induction n with
  | zero => rw [sumAt, sfirst_eq, kpay1_at1, Finset.sum_range_one]
  | succ n ih => rw [sumAt, snext_at, ih, kpay1_at1, Finset.sum_range_succ _ (n + 1)]
end Sums

end Cert.KernelIdeal.Own

end
-- ==== Proof.KI_Val1.lean ====
/- The second kernel's result array, from its operands. -/
module

public import proofs.«01_k».proof.Proof.KI_Pay1
public import Idealize.ShloMosaic.Lib.Pipeline.ValueKit.Geometry

@[expose] public section

set_option maxRecDepth 16384

noncomputable section

namespace Cert.KernelIdeal.Own

open Cert.KernelIdeal.Gen
open Idealize.ShloMosaic Idealize.ShloMosaic.TcCoe Knn
open Idealize.ShloMosaic.Pipeline (Dat Cfg Window)

/-! Where each window's block lies at a grid point. -/
theorem j0 : ∀ t : Fin cfg1.N, t.val < 16 → win1_0.index t = ![t.val / 2, t.val % 2, 0] :=
  (by decide +kernel : ∀ t : Fin grid1.N, t.val < 16 → win1_0.index t = ![t.val / 2, t.val % 2, 0])
theorem j1 : ∀ t : Fin cfg1.N, win1_1.index t = ![0, 0, 0, 0] := (by decide +kernel : ∀ t : Fin grid1.N, win1_1.index t = ![0, 0, 0, 0])
theorem j2 : ∀ t : Fin cfg1.N, win1_2.index t = ![0, 0] := (by decide +kernel : ∀ t : Fin grid1.N, win1_2.index t = ![0, 0])
theorem j3 : ∀ t : Fin cfg1.N, win1_3.index t = ![0, 0] := (by decide +kernel : ∀ t : Fin grid1.N, win1_3.index t = ![0, 0])
theorem j4 : ∀ t : Fin cfg1.N, win1_4.index t = ![0, 0] := (by decide +kernel : ∀ t : Fin grid1.N, win1_4.index t = ![0, 0])
theorem j5 : ∀ t : Fin cfg1.N, win1_5.index t = ![0, 0] := (by decide +kernel : ∀ t : Fin grid1.N, win1_5.index t = ![0, 0])
theorem j6 : ∀ t : Fin cfg1.N, win1_6.index t = ![0, 0] := (by decide +kernel : ∀ t : Fin grid1.N, win1_6.index t = ![0, 0])
theorem j7 : ∀ t : Fin cfg1.N, 16 ≤ t.val → win1_7.index t = ![t.val % 16 / 2, 0, t.val % 16 % 2] :=
  (by decide +kernel : ∀ t : Fin grid1.N, 16 ≤ t.val → win1_7.index t = ![t.val % 16 / 2, 0, t.val % 16 % 2])
/-- The result is written back in the second phase only. -/
theorem flush7 : ∀ t : Fin cfg1.N, win1_7.flush t = true → 16 ≤ t.val :=
  (by decide +kernel : ∀ t : Fin grid1.N, win1_7.flush t = true → 16 ≤ t.val)

variable [Cert.KernelIdeal.Facts]
variable (V : (c : Dev nD) → (b : Ref sig .tc) → Buf (Elt Ideal) ((c : Thread nD τ).loc b)) (c : Dev nD)

/-- The second layer's pre-activation at a point and a channel, from the whole arrays. -/
def yV (b : Fin 8) (n : Fin 4096) (q : Fin 128) : EReal :=
  ∑ o : Fin 256, norm1 (V c main_v10_0 (ix3 b n o)) (∑ b : Fin 8, ∑ n : Fin 8, (V c main_v10_1 (ix4 b n 0 o) : EReal))
    (∑ b : Fin 8, ∑ n : Fin 8, (V c main_v10_1 (ix4 b n 1 o) : EReal)) (V c main_v6 (ix2 0 o)) (V c main_v7 (ix2 0 o)) * V c main_v5 (ix2 o q)

/-- The image of slab `k`, -/
def slB (k : ℕ) : Fin 8 := ⟨k % 16 / 2, by omega⟩
/-- and the row of its place `p`. -/
def slRow (k : ℕ) (p : Fin 2048) : Fin 4096 := ⟨k % 16 % 2 * 2048 + p.val, by omega⟩

theorem pt1_lt (k : ℕ) (hk : k < 16) : (pt1 k).val = k := Nat.mod_eq_of_lt (by omega)

theorem cblk0_at (k : ℕ) (hk : k < 16) (p : Fin 2048) (o : Fin 256) :
    iblk1 V c 0 (pt1 k) (ix3 0 p o) = V c main_v10_0 (ix3 (slB k) (slRow k p) o) := by
  have h := j0 (pt1 k) (by rw [pt1_lt k hk]; exact hk)
  rw [pt1_lt k hk] at h
  blk_simp [iblk1]
  blk_ext [h, slB, slRow]
theorem cblk1_at (t : Fin cfg1.N) (b n : Fin 8) (s : Fin 2) (o : Fin 256) : iblk1 V c 1 t (ix4 b n s o) = V c main_v10_1 (ix4 b n s o) := by
  blk_simp [iblk1]
  blk_ext [j1]
theorem cblk2_at (t : Fin cfg1.N) (o : Fin 256) : iblk1 V c 2 t (ix2 0 o) = V c main_v6 (ix2 0 o) := by
  blk_simp [iblk1]
  blk_ext [j2]
theorem cblk3_at (t : Fin cfg1.N) (o : Fin 256) : iblk1 V c 3 t (ix2 0 o) = V c main_v7 (ix2 0 o) := by
  blk_simp [iblk1]
  blk_ext [j3]
theorem cblk4_at (t : Fin cfg1.N) (o : Fin 256) (q : Fin 128) : iblk1 V c 4 t (ix2 o q) = V c main_v5 (ix2 o q) := by
  blk_simp [iblk1]
  blk_ext [j4]
theorem cblk5_at (t : Fin cfg1.N) (q : Fin 128) : iblk1 V c 5 t (ix2 0 q) = V c main_v8 (ix2 0 q) := by
  blk_simp [iblk1]
  blk_ext [j5]
theorem cblk6_at (t : Fin cfg1.N) (q : Fin 128) : iblk1 V c 6 t (ix2 0 q) = V c main_v9 (ix2 0 q) := by
  blk_simp [iblk1]
  blk_ext [j6]

/-- A slab's value at its place is the arrays' value there. -/
theorem yAt_at (k : ℕ) (hk : k < 16) (p : Fin 2048) (q : Fin 128) : yAt V c (pt1 k) (ix2 p q) = yV V c (slB k) (slRow k p) q := by
  unfold yAt
  rw [yval_at]
  simp only [cblk0_at V c k hk, cblk1_at, cblk2_at, cblk3_at, cblk4_at, yV]
theorem ySlab_at (k : ℕ) (hk : k < 16) (p : Fin 2048) (q : Fin 128) : ySlab V c (pt1 k) (ix3 0 p q) = yV V c (slB k) (slRow k p) q := by
  unfold ySlab
  rw [yslab_at]
  exact yAt_at V c k hk p q

/-- The sum of a channel over all points, slab by slab, -/
def ySum (q : Fin 128) : EReal := ∑ k ∈ Finset.range 16, ∑ p : Fin 2048, yV V c (slB k) (slRow k p) q
/-- and of its squares. -/
def ySq (q : Fin 128) : EReal := ∑ k ∈ Finset.range 16, ∑ p : Fin 2048, yV V c (slB k) (slRow k p) q * yV V c (slB k) (slRow k p) q

theorem sum15_0 (q : Fin 128) : sumAt V c 15 (ix2 0 q) = ySum V c q := by
  rw [sumAt_0]
  exact Finset.sum_congr rfl fun k hk => Finset.sum_congr rfl fun p _ => yAt_at V c k (Finset.mem_range.1 hk) p q
theorem sum15_1 (q : Fin 128) : sumAt V c 15 (ix2 1 q) = ySq V c q := by
  rw [sumAt_1]
  refine Finset.sum_congr rfl fun k hk => Finset.sum_congr rfl fun p _ => ?_
  rw [yAt_at V c k (Finset.mem_range.1 hk) p q]

/-- The result array: every value normalised with its channel's sums. -/
theorem arrOut : (dat1 V c).arrAt 7 cfg1.N
    = fun i => norm1 (yV V c (i 0) (i 2) (i 1)) (ySum V c (i 1)) (ySq V c (i 1)) (V c main_v8 (ix2 0 (i 1))) (V c main_v9 (ix2 0 (i 1))) := by
  refine (dat1 V c).arrAt_eq_of_covers 7 _ (by decide +kernel) fun t hf y => ?_
  have ht := flush7 t hf
  have hi := j7 t ht
  blk_simp
  rw [after1_7]
  obtain ⟨q, p, rfl⟩ : ∃ (q : Fin 128) (p : Fin 2048), y = ix3 0 q p := ⟨y 1, y 2, by blk_ext⟩
  have e : (win1_7.blk t).view.emb (ix3 0 q p) = ix3 (slB (t.val % 16)) q (slRow (t.val % 16) p) := by blk_ext [hi, slB, slRow]
  rw [e]
  refine (oval_at p q _ _ _ _).trans ?_
  rw [ySlab_at V c _ (Nat.mod_lt _ (by decide)), sum15_0, sum15_1, cblk5_at, cblk6_at]
  rfl

end Cert.KernelIdeal.Own

end
-- ==== Proof.A_Model.lean ====
/- The problem over the real numbers: the three nearest points' features in their shares, two layers, each normalised. -/
module

public import proofs.«01_k».proof.Proof.A_Row
public import proofs.«01_k».proof.Proof.A_Norm

@[expose] public section

noncomputable section

namespace Knn

open Idealize.ShloMosaic

/-- The arguments as real numbers. -/
structure Data where
  f1 : Fin 8 → Fin 128 → Fin 4096 → ℝ
  c1 : Fin 8 → Fin 3 → Fin 4096 → ℝ
  f2 : Fin 8 → Fin 256 → Fin 1024 → ℝ
  c2 : Fin 8 → Fin 3 → Fin 1024 → ℝ
  w1 : Fin 256 → Fin 384 → ℝ
  b1 : Fin 256 → ℝ
  g1 : Fin 256 → ℝ
  be1 : Fin 256 → ℝ
  w2 : Fin 128 → Fin 256 → ℝ
  b2 : Fin 128 → ℝ
  g2 : Fin 128 → ℝ
  be2 : Fin 128 → ℝ

variable (D : Data)

/-- The squared distance of a query point from a known point. -/
def Data.dd (b : Fin 8) (n : Fin 4096) (j : Fin 1024) : ℝ := ∑ a : Fin 3, (D.c1 b a n - D.c2 b a j) * (D.c1 b a n - D.c2 b a j)

theorem Data.dd_nonneg (b : Fin 8) (n : Fin 4096) (j : Fin 1024) : 0 ≤ D.dd b n j :=
  Finset.sum_nonneg fun _ _ => mul_self_nonneg _

/-- Three known points nearest to each query point, in order, every other one strictly farther than the third. -/
structure Near (s : Fin 8 → Fin 4096 → Fin 3 → Fin 1024) : Prop where
  ne01 : ∀ b n, s b n 0 ≠ s b n 1
  ne02 : ∀ b n, s b n 0 ≠ s b n 2
  ne12 : ∀ b n, s b n 1 ≠ s b n 2
  le01 : ∀ b n, D.dd b n (s b n 0) ≤ D.dd b n (s b n 1)
  le12 : ∀ b n, D.dd b n (s b n 1) ≤ D.dd b n (s b n 2)
  rest : ∀ b n j, j ≠ s b n 0 → j ≠ s b n 1 → j ≠ s b n 2 → D.dd b n (s b n 2) < D.dd b n j

variable (s : Fin 8 → Fin 4096 → Fin 3 → Fin 1024)

/-- The share of the `k`-th of the three. -/
def Data.sh (b : Fin 8) (n : Fin 4096) (k : Fin 3) : ℝ :=
  share tiny (D.dd b n (s b n 0)) (D.dd b n (s b n 1)) (D.dd b n (s b n 2)) (D.dd b n (s b n k))

/-- The features interpolated at a query point. -/
def Data.interp (b : Fin 8) (n : Fin 4096) (m : Fin 256) : ℝ := ∑ k : Fin 3, D.sh s b n k * D.f2 b m (s b n k)

/-- The first layer before its normalisation, without its bias. -/
def Data.pre1 (o : Fin 256) (b : Fin 8) (n : Fin 4096) : ℝ :=
  (∑ i : Fin 128, D.f1 b i n * D.w1 o ⟨i.val, by omega⟩) + ∑ m : Fin 256, D.interp s b n m * D.w1 o ⟨128 + m.val, by omega⟩

/-- The first layer. -/
def Data.lay1 (o : Fin 256) (b : Fin 8) (n : Fin 4096) : ℝ := bn (D.g1 o) (D.be1 o) (D.pre1 s o) b n

/-- The second layer before its normalisation, without its bias. -/
def Data.pre2 (q : Fin 128) (b : Fin 8) (n : Fin 4096) : ℝ := ∑ o : Fin 256, D.lay1 s o b n * D.w2 q o

/-- The result. -/
def Data.lay2 (q : Fin 128) (b : Fin 8) (n : Fin 4096) : ℝ := bn (D.g2 q) (D.be2 q) (D.pre2 s q) b n

variable {s}

/-- The kernel's weights over all known points give the interpolated features. -/
theorem weight_sum (h : Near D s) (b : Fin 8) (n : Fin 4096) (m : Fin 256) :
    ∑ j : Fin 1024, weight (Ideal.ofBits .f32 0x322BCC77#32) (fun j => (D.dd b n j : EReal)) j * (D.f2 b m j : EReal) = (D.interp s b n m : EReal) := by
  have e : ∀ j, weight (Ideal.ofBits .f32 0x322BCC77#32) (fun j => (D.dd b n j : EReal)) j * (D.f2 b m j : EReal)
      = (((((if j = s b n 0 then D.sh s b n 0 else 0) + (if j = s b n 1 then D.sh s b n 1 else 0))
          + (if j = s b n 2 then D.sh s b n 2 else 0)) * D.f2 b m j : ℝ) : EReal) := by
    intro j
    rw [tiny_word.1, weight_eq tiny_word.2 (D.dd b n) (D.dd_nonneg b n) (h.rest b n) (h.ne01 b n) (h.ne02 b n) (h.ne12 b n) (h.le01 b n) (h.le12 b n) j,
      ← EReal.coe_mul]
    rfl
  simp only [e]
  rw [← coe_sum]
  congr 1
  simp only [add_mul, Finset.sum_add_distrib, ite_mul, zero_mul, Finset.sum_ite_eq', Finset.mem_univ, if_true]
  unfold Data.interp
  rw [Fin.sum_univ_three]

/-- A sum over the points of an image, block by block of 512. -/
theorem sum_512 (f : Fin 4096 → ℝ) : ∑ k : Fin 8, ∑ p : Fin 512, f ⟨k.val * 512 + p.val, by omega⟩ = ∑ n, f n := by
  rw [← Fintype.sum_prod_type']
  refine Fintype.sum_equiv (finProdFinEquiv (m := 8) (n := 512)) _ (fun n : Fin 4096 => f n) fun x => ?_
  congr 1
  apply Fin.ext
  simp only [finProdFinEquiv_apply_val]
  omega

/-- … and half by half. -/
theorem sum_2048 (f : Fin 4096 → ℝ) : ∑ k : Fin 2, ∑ p : Fin 2048, f ⟨k.val * 2048 + p.val, by omega⟩ = ∑ n, f n := by
  rw [← Fintype.sum_prod_type']
  refine Fintype.sum_equiv (finProdFinEquiv (m := 2) (n := 2048)) _ (fun n : Fin 4096 => f n) fun x => ?_
  congr 1
  apply Fin.ext
  simp only [finProdFinEquiv_apply_val]
  omega

/-- The sixteen slabs of 2048 points make all of them. -/
theorem sum_slabs (x : Fin 8 → Fin 4096 → ℝ) :
    ∑ k ∈ Finset.range 16, ∑ p : Fin 2048, x ⟨k % 16 / 2, by omega⟩ ⟨k % 16 % 2 * 2048 + p.val, by omega⟩ = total x := by
  unfold total
  simp only [← sum_2048]
  rw [Finset.sum_range]
  refine Eq.trans ?_ (Fintype.sum_prod_type' fun (b : Fin 8) (k : Fin 2) => ∑ p : Fin 2048, x b ⟨k.val * 2048 + p.val, by omega⟩)
  refine (Fintype.sum_equiv (finProdFinEquiv (m := 8) (n := 2)) _ (fun n : Fin 16 =>
    ∑ p : Fin 2048, x ⟨n.val % 16 / 2, by omega⟩ ⟨n.val % 16 % 2 * 2048 + p.val, by omega⟩) fun y => ?_).symm
  refine Finset.sum_congr rfl fun p _ => ?_
  congr 1
  · congr 1
    apply Fin.ext
    simp only [finProdFinEquiv_apply_val]
    omega
  · apply Fin.ext
    simp only [finProdFinEquiv_apply_val]
    omega

end Knn

end
-- ==== Proof.KI_Val.lean ====
/- The program's result at an index, from its arguments. -/
module

public import proofs.«01_k».proof.Proof.KI_Val0
public import proofs.«01_k».proof.Proof.KI_Val1
public import proofs.«01_k».proof.Proof.KI_Run
public import proofs.«01_k».proof.Proof.A_Model
public import Idealize.ShloMosaic.Lib.StableHlo.ReadAt

@[expose] public section

set_option maxRecDepth 16384

noncomputable section

namespace Cert.KernelIdeal.Own

open Cert.KernelIdeal.Gen
open Idealize.ShloMosaic Idealize.ShloMosaic.TcCoe Knn
open Idealize.ShloMosaic.Pipeline (Dat Cfg Window)

section Host
variable (m : (ℓ : Loc nD τ sig) → Buf (Elt Ideal) ℓ) (ρ : Dev nD → PrngReg) (c : Dev nD)

/-! What the host operations leave in the kernels' operands, at an index. -/
theorem v0_at (b : Fin 8) (n : Fin 4096) (a : Fin 3) : V1 m ρ c main_v0 (ix3 b n a) = m ((c : Thread nD τ).loc main_arg1) (ix3 b a n) := by
  unfold V1 W1 hostOps0
  after_reads_at
theorem v2_at (i : Fin 128) (o : Fin 256) : V1 m ρ c main_v2 (ix2 i o) = m ((c : Thread nD τ).loc main_arg4) (ix2 o ⟨i.val, by omega⟩) := by
  unfold V1 W1 hostOps0
  after_reads_at
theorem v4_at (k : Fin 256) (o : Fin 256) : V1 m ρ c main_v4 (ix2 k o) = m ((c : Thread nD τ).loc main_arg4) (ix2 o ⟨128 + k.val, by omega⟩) := by
  unfold V1 W1 hostOps0
  after_reads_at
theorem v5_at (o : Fin 256) (q : Fin 128) : V1 m ρ c main_v5 (ix2 o q) = m ((c : Thread nD τ).loc main_arg8) (ix2 q o) := by
  unfold V1 W1 hostOps0
  after_reads_at
theorem v6_at (o : Fin 256) : V1 m ρ c main_v6 (ix2 0 o) = m ((c : Thread nD τ).loc main_arg6) (ix1 o) := by
  unfold V1 W1 hostOps0
  after_reads_at
theorem v7_at (o : Fin 256) : V1 m ρ c main_v7 (ix2 0 o) = m ((c : Thread nD τ).loc main_arg7) (ix1 o) := by
  unfold V1 W1 hostOps0
  after_reads_at
theorem v8_at (q : Fin 128) : V1 m ρ c main_v8 (ix2 0 q) = m ((c : Thread nD τ).loc main_arg10) (ix1 q) := by
  unfold V1 W1 hostOps0
  after_reads_at
theorem v9_at (q : Fin 128) : V1 m ρ c main_v9 (ix2 0 q) = m ((c : Thread nD τ).loc main_arg11) (ix1 q) := by
  unfold V1 W1 hostOps0
  after_reads_at
end Host

/-- The arguments of core `c` are the real numbers `D`. -/
structure Reads (m : (ℓ : Loc nD τ sig) → Buf (Elt Ideal) ℓ) (c : Dev nD) (D : Data) : Prop where
  f1 : ∀ b i n, m ((c : Thread nD τ).loc main_arg0) (ix3 b i n) = (D.f1 b i n : EReal)
  c1 : ∀ b a n, m ((c : Thread nD τ).loc main_arg1) (ix3 b a n) = (D.c1 b a n : EReal)
  f2 : ∀ b k j, m ((c : Thread nD τ).loc main_arg2) (ix3 b k j) = (D.f2 b k j : EReal)
  c2 : ∀ b a j, m ((c : Thread nD τ).loc main_arg3) (ix3 b a j) = (D.c2 b a j : EReal)
  w1 : ∀ o i, m ((c : Thread nD τ).loc main_arg4) (ix2 o i) = (D.w1 o i : EReal)
  b1 : ∀ o, m ((c : Thread nD τ).loc main_arg5) (ix1 o) = (D.b1 o : EReal)
  g1 : ∀ o, m ((c : Thread nD τ).loc main_arg6) (ix1 o) = (D.g1 o : EReal)
  be1 : ∀ o, m ((c : Thread nD τ).loc main_arg7) (ix1 o) = (D.be1 o : EReal)
  w2 : ∀ q o, m ((c : Thread nD τ).loc main_arg8) (ix2 q o) = (D.w2 q o : EReal)
  b2 : ∀ q, m ((c : Thread nD τ).loc main_arg9) (ix1 q) = (D.b2 q : EReal)
  g2 : ∀ q, m ((c : Thread nD τ).loc main_arg10) (ix1 q) = (D.g2 q : EReal)
  be2 : ∀ q, m ((c : Thread nD τ).loc main_arg11) (ix1 q) = (D.be2 q : EReal)

/-- The expanded distance of real points is the sum of squared differences. -/
theorem dst_real (u w : Fin 3 → ℝ) : dst (fun a => (u a : EReal)) (fun a => (w a : EReal)) = ((∑ a, (u a - w a) * (u a - w a) : ℝ) : EReal) := by
  unfold dst
  rw [neg_two_word]
  simp only [← EReal.coe_mul, ← coe_sum, ← EReal.coe_add]
  congr 1
  simp only [Fin.sum_univ_three]
  ring

/-- The first layer before its normalisation, from real arrays. -/
theorem xv_real (D : Data) (s : Fin 8 → Fin 4096 → Fin 3 → Fin 1024) (hs : Near D s)
    (T : Vec Ideal S8x4096x3 .f32) (B : Vec Ideal S8x3x1024 .f32) (f1 : Vec Ideal S8x128x4096 .f32) (f2 : Vec Ideal S8x256x1024 .f32)
    (wa : Vec Ideal S128x256 .f32) (wb : Vec Ideal S256x256 .f32)
    (hT : ∀ b n a, T (ix3 b n a) = (D.c1 b a n : EReal)) (hB : ∀ b a j, B (ix3 b a j) = (D.c2 b a j : EReal))
    (hf1 : ∀ b i n, f1 (ix3 b i n) = (D.f1 b i n : EReal)) (hf2 : ∀ b k j, f2 (ix3 b k j) = (D.f2 b k j : EReal))
    (hwa : ∀ (i : Fin 128) o, wa (ix2 i o) = (D.w1 o ⟨i.val, by omega⟩ : EReal))
    (hwb : ∀ (k : Fin 256) o, wb (ix2 k o) = (D.w1 o ⟨128 + k.val, by omega⟩ : EReal)) (b : Fin 8) (n : Fin 4096) (o : Fin 256) :
    xv T B f1 f2 wa wb b n o = (D.pre1 s o b n : EReal) := by
  unfold xv
  simp only [hT, hB, hf1, hf2, hwa, hwb, dst_real]
  have e := weight_sum D hs b n
  unfold Data.dd at e
  simp only [e, ← EReal.coe_mul, ← coe_sum, ← EReal.coe_add]
  rfl

/-- The sum of one statistic of a channel over all blocks. -/
def statSum (v : S8x8x2x256.Idx → EReal) (s : Fin 2) (o : Fin 256) : EReal := ∑ b : Fin 8, ∑ n : Fin 8, v (ix4 b n s o)

theorem statSum_real (v : S8x8x2x256.Idx → EReal) (s : Fin 2) (o : Fin 256) (x : Fin 8 → Fin 4096 → ℝ)
    (hv : ∀ b n : Fin 8, v (ix4 b n s o) = ((∑ p : Fin 512, x b ⟨n.val * 512 + p.val, by omega⟩ : ℝ) : EReal)) :
    statSum v s o = (total x : EReal) := by
  have e : ∀ b : Fin 8, ∑ n : Fin 8, v (ix4 b n s o) = ((∑ n, x b n : ℝ) : EReal) := fun b => by
    rw [← sum_512 (x b), coe_sum]
    exact Finset.sum_congr rfl fun n _ => hv b n
  unfold statSum total
  rw [coe_sum]
  exact Finset.sum_congr rfl fun b _ => e b

section Result
variable [Cert.KernelIdeal.Facts]
variable (m : (ℓ : Loc nD τ sig) → Buf (Elt Ideal) ℓ) (ρ : Dev nD → PrngReg) (c : Dev nD) (D : Data) (hD : Reads m c D)
  (s : Fin 8 → Fin 4096 → Fin 3 → Fin 1024) (hs : Near D s)
include hD hs

/-- The first kernel's values are the first layer before its normalisation. -/
theorem xV_real (b : Fin 8) (n : Fin 4096) (o : Fin 256) : xV (V1 m ρ) c b n o = (D.pre1 s o b n : EReal) := by
  have a0 : V1 m ρ c main_arg0 = m ((c : Thread nD τ).loc main_arg0) := W1_args m ρ c main_arg0 (by simp)
  have a2 : V1 m ρ c main_arg2 = m ((c : Thread nD τ).loc main_arg2) := W1_args m ρ c main_arg2 (by simp)
  have a3 : V1 m ρ c main_arg3 = m ((c : Thread nD τ).loc main_arg3) := W1_args m ρ c main_arg3 (by simp)
  unfold xV
  rw [a0, a2, a3]
  exact xv_real D s hs _ _ _ _ _ _ (fun b n a => (v0_at m ρ c b n a).trans (hD.c1 b a n)) hD.c2 hD.f1 hD.f2
    (fun i o => (v2_at m ρ c i o).trans (hD.w1 o _)) (fun k o => (v4_at m ρ c k o).trans (hD.w1 o _)) b n o

theorem x0_real (b : Fin 8) (n : Fin 4096) (o : Fin 256) : V2 m ρ c main_v10_0 (ix3 b n o) = (D.pre1 s o b n : EReal) := by
  have e : V2 m ρ c main_v10_0 = _ := (W2_arr m ρ c 6).trans (arr6 (V1 m ρ) c)
  rw [e]
  exact xV_real m ρ c D hD s hs b n o

theorem stat_real0 (o : Fin 256) : statSum (V2 m ρ c main_v10_1) 0 o = (total (D.pre1 s o) : EReal) := by
  have e : V2 m ρ c main_v10_1 = _ := (W2_arr m ρ c 7).trans (arr7 (V1 m ρ) c)
  rw [e]
  refine statSum_real _ 0 o (D.pre1 s o) fun b n => (statV_0 (V1 m ρ) c b n o).trans ?_
  simp only [xV_real m ρ c D hD s hs, ← coe_sum]

theorem stat_real1 (o : Fin 256) : statSum (V2 m ρ c main_v10_1) 1 o
    = (total (fun b n => D.pre1 s o b n * D.pre1 s o b n) : EReal) := by
  have e : V2 m ρ c main_v10_1 = _ := (W2_arr m ρ c 7).trans (arr7 (V1 m ρ) c)
  rw [e]
  refine statSum_real _ 1 o (fun b n => D.pre1 s o b n * D.pre1 s o b n) fun b n => (statV_1 (V1 m ρ) c b n o).trans ?_
  simp only [xV_real m ρ c D hD s hs, ← EReal.coe_mul, ← coe_sum]

/-- The second kernel's values are the second layer before its normalisation. -/
theorem yV_real (b : Fin 8) (n : Fin 4096) (q : Fin 128) : yV (V2 m ρ) c b n q = (D.pre2 s q b n : EReal) := by
  have a5 : V2 m ρ c main_v5 = V1 m ρ c main_v5 := W2_of m ρ c main_v5 (by decide +kernel)
  have a6 : V2 m ρ c main_v6 = V1 m ρ c main_v6 := W2_of m ρ c main_v6 (by decide +kernel)
  have a7 : V2 m ρ c main_v7 = V1 m ρ c main_v7 := W2_of m ρ c main_v7 (by decide +kernel)
  unfold yV
  rw [a5, a6, a7]
  refine (Finset.sum_congr rfl fun o _ => ?_).trans (coe_sum Finset.univ fun o => D.lay1 s o b n * D.w2 q o).symm
  change norm1 (V2 m ρ c main_v10_0 (ix3 b n o)) (statSum (V2 m ρ c main_v10_1) 0 o) (statSum (V2 m ρ c main_v10_1) 1 o) _ _ * _ = _
  rw [x0_real m ρ c D hD s hs, stat_real0 m ρ c D hD s hs, stat_real1 m ρ c D hD s hs, v5_at, v6_at, v7_at, hD.w2, hD.g1, hD.be1]
  unfold norm1
  rw [kernel_bn _ _ (D.pre1 s o) b n _ _ rfl rfl, ← EReal.coe_mul]
  rfl

theorem ySum_real (q : Fin 128) : ySum (V2 m ρ) c q = (total (D.pre2 s q) : EReal) := by
  unfold ySum
  simp only [yV_real m ρ c D hD s hs, ← coe_sum]
  exact congrArg _ (sum_slabs (D.pre2 s q))

theorem ySq_real (q : Fin 128) : ySq (V2 m ρ) c q = (total (fun b n => D.pre2 s q b n * D.pre2 s q b n) : EReal) := by
  unfold ySq
  simp only [yV_real m ρ c D hD s hs, ← EReal.coe_mul, ← coe_sum]
  exact congrArg _ (sum_slabs fun b n => D.pre2 s q b n * D.pre2 s q b n)

/-- The program's result is the second layer. -/
theorem result : W3 m ρ c (Proc.devRef .tc main_v11) = fun i => (D.lay2 s (i 1) (i 0) (i 2) : EReal) := by
  have a8 : V2 m ρ c main_v8 = V1 m ρ c main_v8 := W2_of m ρ c main_v8 (by decide +kernel)
  have a9 : V2 m ρ c main_v9 = V1 m ρ c main_v9 := W2_of m ρ c main_v9 (by decide +kernel)
  refine (W3_arr m ρ c 7).trans ((arrOut (V2 m ρ) c).trans (funext fun i => ?_))
  obtain ⟨b, q, n, rfl⟩ : ∃ (b : Fin 8) (q : Fin 128) (n : Fin 4096), i = ix3 b q n := ⟨i 0, i 1, i 2, by blk_ext⟩
  change norm1 (yV (V2 m ρ) c b n q) (ySum (V2 m ρ) c q) (ySq (V2 m ρ) c q) (V2 m ρ c main_v8 (ix2 0 q)) (V2 m ρ c main_v9 (ix2 0 q)) = (D.lay2 s q b n : EReal)
  rw [a8, a9, yV_real m ρ c D hD s hs, ySum_real m ρ c D hD s hs, ySq_real m ρ c D hD s hs]
  refine (congrArg₂ (norm1 _ _ _) ((v8_at m ρ c q).trans (hD.g2 _)) ((v9_at m ρ c q).trans (hD.be2 _))).trans ?_
  unfold norm1
  exact kernel_bn _ _ (D.pre2 s q) b n _ _ rfl rfl
end Result

end Cert.KernelIdeal.Own

end
-- ==== Proof.A_Sort.lean ====
/- A stable sort of real keys along the last axis, read at its first places. -/
module

public import Idealize.ShloMosaic.Lib.Pointwise
public import Idealize.ShloMosaic.Lib.SortFacts

@[expose] public section

noncomputable section

namespace Knn

open Idealize.ShloMosaic

/-- The place each position of the sorted row comes from. -/
def order {n : ℕ} (δ : Fin n → ℝ) : Fin n → Fin n := sortedFrom fun k k' => decide (δ k < δ k')

theorem order_injective {n : ℕ} (δ : Fin n → ℝ) : Function.Injective (order δ) := sortedFrom_injective _
theorem order_surjective {n : ℕ} (δ : Fin n → ℝ) : Function.Surjective (order δ) := sortedFrom_surjective _

/-- The sorted row ascends. -/
theorem order_le {n : ℕ} (δ : Fin n → ℝ) (i j : Fin n) (h : i ≤ j) : δ (order δ i) ≤ δ (order δ j) := by
  rcases h.lt_or_eq with h | rfl
  · have := sortedFrom_noInversion (fun k k' => decide (δ k < δ k')) (fun k k' => decide (δ k < δ k'))
      (fun a b h => by simp only [decide_eq_true_eq, decide_eq_false_iff_not, not_lt] at h ⊢; exact h.le) (fun _ _ h => h)
      (fun a b c h h' => by simp only [decide_eq_false_iff_not, not_lt] at h h' ⊢; exact h'.trans h) i j h
    exact not_lt.1 (of_decide_eq_false this)
  · exact le_rfl

variable {n0 n1 n2 : ℕ} (cmp : EReal × BitVec 32 → EReal × BitVec 32 → BitVec 1)
  (hc : ∀ (a b : ℝ) (x y : BitVec 32), cmp ((a : EReal), x) ((b : EReal), y) = 1#1 ↔ a < b)
  (x : (⟨3, ![n0, n1, n2]⟩ : Shape).Idx → EReal) (y : (⟨3, ![n0, n1, n2]⟩ : Shape).Idx → BitVec 32)
  (δ : Fin n0 → Fin n1 → Fin n2 → ℝ) (hx : ∀ b n j, x (ix3 b n j) = (δ b n j : EReal))

/-- An index with its last coordinate replaced. -/
theorem along_ix3 (b : Fin n0) (n : Fin n1) (k k' : Fin n2) :
    (ix3 b n k : (⟨3, ![n0, n1, n2]⟩ : Shape).Idx).along (2 : Fin 3) k' = ix3 b n k' := by
  funext a
  match a with
  | ⟨0, _⟩ => rfl
  | ⟨1, _⟩ => rfl
  | ⟨2, _⟩ => rfl

include hc hx

theorem before_eq (b : Fin n0) (n : Fin n1) :
    (fun k k' : Fin n2 => cmp (x (ix3 b n k), y (ix3 b n k)) (x (ix3 b n k'), y (ix3 b n k')) == 1#1)
      = fun k k' => decide (δ b n k < δ b n k') := by
  funext k k'
  rw [hx, hx, Bool.eq_iff_iff, beq_iff_eq, hc, decide_eq_true_eq]

/-- The sorted keys, -/
theorem sort_fst (b : Fin n0) (n : Fin n1) (k : Fin n2) :
    (Host.sort2 ⟨3, ![n0, n1, n2]⟩ 2 cmp x y).1 (ix3 b n k) = (δ b n (order (δ b n) k) : EReal) := by
  rw [← hx]
  unfold Host.sort2 order
  rw [dif_pos (show 2 < 3 by decide), ← before_eq cmp hc x y δ hx b n]
  change x ((ix3 b n k : Shape.Idx ⟨3, ![n0, n1, n2]⟩).along (2 : Fin 3) (sortedFrom (n := n2) (fun k1 k2 =>
    cmp (x ((ix3 b n k : Shape.Idx ⟨3, ![n0, n1, n2]⟩).along (2 : Fin 3) k1), y ((ix3 b n k : Shape.Idx ⟨3, ![n0, n1, n2]⟩).along (2 : Fin 3) k1))
      (x ((ix3 b n k : Shape.Idx ⟨3, ![n0, n1, n2]⟩).along (2 : Fin 3) k2), y ((ix3 b n k : Shape.Idx ⟨3, ![n0, n1, n2]⟩).along (2 : Fin 3) k2)) == 1#1) k)) = _
  simp only [along_ix3]

/-- and what was carried along. -/
theorem sort_snd (b : Fin n0) (n : Fin n1) (k : Fin n2) :
    (Host.sort2 ⟨3, ![n0, n1, n2]⟩ 2 cmp x y).2 (ix3 b n k) = y (ix3 b n (order (δ b n) k)) := by
  unfold Host.sort2 order
  rw [dif_pos (show 2 < 3 by decide), ← before_eq cmp hc x y δ hx b n]
  change y ((ix3 b n k : Shape.Idx ⟨3, ![n0, n1, n2]⟩).along (2 : Fin 3) (sortedFrom (n := n2) (fun k1 k2 =>
    cmp (x ((ix3 b n k : Shape.Idx ⟨3, ![n0, n1, n2]⟩).along (2 : Fin 3) k1), y ((ix3 b n k : Shape.Idx ⟨3, ![n0, n1, n2]⟩).along (2 : Fin 3) k1))
      (x ((ix3 b n k : Shape.Idx ⟨3, ![n0, n1, n2]⟩).along (2 : Fin 3) k2), y ((ix3 b n k : Shape.Idx ⟨3, ![n0, n1, n2]⟩).along (2 : Fin 3) k2)) == 1#1) k)) = _
  simp only [along_ix3]

end Knn

end
-- ==== Proof.RI_Dist.lean ====
module
public import proofs.«01_k».proof.Proof.A_Model
public import proofs.«01_k».proof.Proof.A_Sort
public import proofs.«01_k».proof.Proof.A_Norm
public import proofs.«01_k».proof.Proof.Gen.ReferenceIdeal.Run
public import Idealize.ShloMosaic.Lib.Pointwise
@[expose] public section
set_option maxRecDepth 16384
noncomputable section
namespace Cert.ReferenceIdeal.Own
open Cert.ReferenceIdeal.Gen Cert.ReferenceIdeal.Value
open Idealize.ShloMosaic Idealize.ShloMosaic.TcCoe Knn

/-- The place of the neighbour that comes `k`-th when a point's distances are put in order. -/
def ranked (D : Data) (b : Fin 8) (n : Fin 4096) (k : Fin 3) : Fin 1024 := order (D.dd b n) ⟨k.val, by omega⟩

/-- The reference's arguments hold the real arrays `D`. -/
structure Holds (V : Valuation τ sig (Elt Ideal)) (D : Data) : Prop where
  f1 : ∀ b i n, V (Proc.devRef .tc main_arg0) (ix3 b i n) = (D.f1 b i n : EReal)
  c1 : ∀ b a n, V (Proc.devRef .tc main_arg1) (ix3 b a n) = (D.c1 b a n : EReal)
  f2 : ∀ b k j, V (Proc.devRef .tc main_arg2) (ix3 b k j) = (D.f2 b k j : EReal)
  c2 : ∀ b a j, V (Proc.devRef .tc main_arg3) (ix3 b a j) = (D.c2 b a j : EReal)
  w1 : ∀ o i, V (Proc.devRef .tc main_arg4) (ix2 o i) = (D.w1 o i : EReal)
  b1 : ∀ o, V (Proc.devRef .tc main_arg5) (ix1 o) = (D.b1 o : EReal)
  g1 : ∀ o, V (Proc.devRef .tc main_arg6) (ix1 o) = (D.g1 o : EReal)
  be1 : ∀ o, V (Proc.devRef .tc main_arg7) (ix1 o) = (D.be1 o : EReal)
  w2 : ∀ q o, V (Proc.devRef .tc main_arg8) (ix2 q o) = (D.w2 q o : EReal)
  b2 : ∀ q, V (Proc.devRef .tc main_arg9) (ix1 q) = (D.b2 q : EReal)
  g2 : ∀ q, V (Proc.devRef .tc main_arg10) (ix1 q) = (D.g2 q : EReal)
  be2 : ∀ q, V (Proc.devRef .tc main_arg11) (ix1 q) = (D.be2 q : EReal)

/-- The bit of a decided statement is set exactly where it holds. -/
theorem bit_of (p : Prop) [Decidable p] : BitVec.ofBool (decide p) = 1#1 ↔ p := by
  by_cases h : p <;> simp [h]

/-- The sort's comparison puts real numbers in their order. -/
theorem cmp_real (a b : ℝ) (x y : BitVec 32) : comparator_f32_i32_d2 (F := Ideal) ((a : EReal), x) ((b : EReal), y) = 1#1 ↔ a < b := by
  unfold comparator_f32_i32_d2
  simp only [Scalar.select, FloatOps.cmpfTotal, FloatOps.cmpf, Ideal.cmpTotal, Ideal.cmp, CmpDirection.ordered]
  by_cases ha : a = 0 <;> by_cases hb : b = 0 <;> simp [ha, hb, bit_of]

variable [Cert.ReferenceIdeal.Facts]
variable (V : Valuation τ sig (Elt Ideal)) (D : Data) (hV : Holds V D)
include hV

/-- The reference's distances are the squared distances of the real points. -/
theorem v16_at (b : Fin 8) (n : Fin 4096) (j : Fin 1024) : res_main_v16 V (ix3 b n j) = (D.dd b n j : EReal) := by
  unfold res_main_v16 res_main_v0 res_main_v1
  pointwise
  simp only [hV.c1, hV.c2]
  rw [neg_two_word]
  simp only [← EReal.coe_mul, ← coe_sum, ← EReal.coe_add]
  unfold Data.dd
  congr 1
  simp only [Fin.sum_univ_three]
  ring

/-- The three positions the reference keeps are those of the three first in order. -/
theorem v20_at (b : Fin 8) (n : Fin 4096) (k : Fin 3) : res_main_v20 V (ix3 b n k) = BitVec.ofNat 32 (ranked D b n k).val := by
  unfold res_main_v20
  pointwise
  refine (sort_snd (comparator_f32_i32_d2 (F := Ideal)) cmp_real (res_main_v16 V) (res_main_v17 V) (fun b n j => D.dd b n j) (v16_at V D hV) b n ⟨k.val, by omega⟩).trans ?_
  rfl

/-- The reference's reciprocal distances. -/
theorem v24_at (b : Fin 8) (n : Fin 4096) (k : Fin 3) :
    res_main_v24 V (ix3 b n k) = ((1 / (D.dd b n (ranked D b n k) + tiny) : ℝ) : EReal) := by
  unfold res_main_v24
  pointwise
  have e := sort_fst (comparator_f32_i32_d2 (F := Ideal)) cmp_real (res_main_v16 V) (res_main_v17 V) (fun b n j => D.dd b n j) (v16_at V D hV) b n ⟨k.val, by omega⟩
  rw [tiny_word.1]
  refine (congrArg (fun z : EReal => Ideal.div 1 (z + (tiny : EReal))) e).trans ?_
  show Ideal.div 1 (((D.dd b n (ranked D b n k) : ℝ) : EReal) + (tiny : EReal)) = _
  rw [← EReal.coe_add, ← EReal.coe_one]
  exact div_real 1 _ (by have := D.dd_nonneg b n (ranked D b n k); have := tiny_word.2; positivity)

end Cert.ReferenceIdeal.Own

end
-- ==== Proof.RI_Gather.lean ====
module
public import proofs.«01_k».proof.Proof.A_Model
public import proofs.«01_k».proof.Proof.Gen.ReferenceIdeal.Run
public import Idealize.ShloMosaic.Lib.Pointwise
@[expose] public section
set_option maxRecDepth 16384
noncomputable section
namespace Cert.ReferenceIdeal.Own
open Cert.ReferenceIdeal.Gen Cert.ReferenceIdeal.Value
open Idealize.ShloMosaic Idealize.ShloMosaic.TcCoe Knn

/-- A word made of a small number reads back, signed, as that number. -/
theorem word_small (x : Nat) (h : x < 1024) : (BitVec.ofNat 32 x).toInt.toNat = x := by
  rw [BitVec.toInt_ofNat']
  have e : ((x : Int).bmod (2 ^ 32)) = x := by
    apply Int.bmod_eq_of_le <;> omega
  simp only [e]
  omega

/-- A word made of a small number is not negative. -/
theorem word_not_neg (x : Nat) (h : x < 1024) : IntOp.cmpi .slt (BitVec.ofNat 32 x) 0#32 ≠ 1#1 := by
  intro e
  have h1 : (BitVec.ofNat 32 x).slt 0#32 = true := by
    by_contra hc
    simp only [Bool.not_eq_true] at hc
    simp [IntOp.cmpi, hc] at e
  rw [BitVec.slt_eq_decide, BitVec.toInt_ofNat'] at h1
  have e2 : ((x : Int).bmod (2 ^ 32)) = x := by
    apply Int.bmod_eq_of_le <;> omega
  simp only [e2] at h1
  simp at h1
  omega

variable [Cert.ReferenceIdeal.Facts]

private abbrev gd := gather_S8x1024x256_S8x4096x3x2_S8x4096x3x256_3_01_n_n_01_3_11256

/-- The reference's gather, where its two index words name a batch and a row: the operand's entry there. -/
theorem gathered {α : Type} (x : S8x1024x256.Idx → α) (idx : IVec S8x4096x3x2 32) (b : Fin 8) (n : Fin 4096) (k : Fin 3) (m : Fin 256)
    (B : Fin 8) (J : Fin 1024) (hB : idx (ix4 b n k 0) = BitVec.ofNat 32 B.val) (hJ : idx (ix4 b n k 1) = BitVec.ofNat 32 J.val) :
    Host.gather gather_S8x1024x256_S8x4096x3x2_S8x4096x3x256_3_01_n_n_01_3_11256 x idx (ix4 b n k m) = x (ix3 B J m) := by
  unfold Host.gather
  congr 1
  funext a
  refine Fin.ext ?_
  show gd.start (ix4 b n k m) idx a + gd.batchCoord (ix4 b n k m) a + gd.offCoord (ix4 b n k m) a = _
  rw [GatherDims.batchCoord_eq_zero _ _ _ List.not_mem_nil]
  have s0 : gd.siIdx (ix4 b n k m) (⟨0, by decide⟩ : Fin 2) = ix4 b n k 0 := by
    funext q; refine Fin.ext ?_
    match q with
    | ⟨0, _⟩ => rfl
    | ⟨1, _⟩ => rfl
    | ⟨2, _⟩ => rfl
    | ⟨3, _⟩ => rfl
  have s1 : gd.siIdx (ix4 b n k m) (⟨1, by decide⟩ : Fin 2) = ix4 b n k 1 := by
    funext q; refine Fin.ext ?_
    match q with
    | ⟨0, _⟩ => rfl
    | ⟨1, _⟩ => rfl
    | ⟨2, _⟩ => rfl
    | ⟨3, _⟩ => rfl
  match a with
  | ⟨0, _⟩ =>
    have o0 : gd.offCoord (ix4 b n k m) (0 : Fin 3) = 0 := rfl
    have t0 : gd.start (ix4 b n k m) idx (0 : Fin 3) = min (idx (gd.siIdx (ix4 b n k m) (⟨0, by decide⟩ : Fin 2))).toInt.toNat 7 := rfl
    rw [s0, hB, word_small _ (by omega)] at t0
    show gd.start (ix4 b n k m) idx (0 : Fin 3) + 0 + gd.offCoord (ix4 b n k m) (0 : Fin 3) = B.val
    rw [o0, t0]
    omega
  | ⟨1, _⟩ =>
    have o0 : gd.offCoord (ix4 b n k m) (1 : Fin 3) = 0 := rfl
    have t0 : gd.start (ix4 b n k m) idx (1 : Fin 3) = min (idx (gd.siIdx (ix4 b n k m) (⟨1, by decide⟩ : Fin 2))).toInt.toNat 1023 := rfl
    rw [s1, hJ, word_small _ (by omega)] at t0
    show gd.start (ix4 b n k m) idx (1 : Fin 3) + 0 + gd.offCoord (ix4 b n k m) (1 : Fin 3) = J.val
    rw [o0, t0]
    omega
  | ⟨2, _⟩ =>
    have o0 : gd.offCoord (ix4 b n k m) (2 : Fin 3) = m.val := rfl
    have t0 : gd.start (ix4 b n k m) idx (2 : Fin 3) = 0 := rfl
    show gd.start (ix4 b n k m) idx (2 : Fin 3) + 0 + gd.offCoord (ix4 b n k m) (2 : Fin 3) = m.val
    rw [o0, t0]
    omega

end Cert.ReferenceIdeal.Own

end
-- ==== Proof.RI_Pre1.lean ====
module
public import proofs.«01_k».proof.Proof.RI_Dist
public import proofs.«01_k».proof.Proof.RI_Gather
@[expose] public section
set_option maxRecDepth 16384
noncomputable section
namespace Cert.ReferenceIdeal.Own
open Cert.ReferenceIdeal.Gen Cert.ReferenceIdeal.Value
open Idealize.ShloMosaic Idealize.ShloMosaic.TcCoe Knn
/-- One of three positive numbers over their sum. -/
theorem share_of (u : Fin 3 → ℝ) (hu : ∀ j, 0 < u j) (k : Fin 3) :
    Ideal.div (u k : EReal) (∑ j : Fin 3, (u j : EReal)) = ((u k / (u 0 + u 1 + u 2) : ℝ) : EReal) := by
  have p0 := hu 0
  have p1 := hu 1
  have p2 := hu 2
  rw [← coe_sum, Fin.sum_univ_three]
  exact div_real _ _ (by linarith)

/-- A reciprocal distance is positive. -/
theorem recip_pos (x : ℝ) (h : 0 ≤ x) : 0 < 1 / (x + tiny) :=
  one_div_pos.mpr (add_pos_of_nonneg_of_pos h tiny_word.2)

/-- A neighbour's reciprocal distance over the sum of the three is its share. -/
theorem share_at (D : Data) (s : Fin 8 → Fin 4096 → Fin 3 → Fin 1024) (b : Fin 8) (n : Fin 4096) (k : Fin 3) :
    Ideal.div ((1 / (D.dd b n (s b n k) + tiny) : ℝ) : EReal) (∑ j : Fin 3, ((1 / (D.dd b n (s b n j) + tiny) : ℝ) : EReal))
      = (D.sh s b n k : EReal) := by
  unfold Data.sh share
  exact share_of (fun j => 1 / (D.dd b n (s b n j) + tiny)) (fun j => recip_pos _ (D.dd_nonneg b n _)) k

variable [Cert.ReferenceIdeal.Facts]
variable (V : Valuation τ sig (Elt Ideal)) (D : Data)

/-- The batch and the row of every neighbour, as the reference hands them to its gather. -/
def places : IVec S8x4096x3x2 32 :=
  concatenate S8x4096x3x2 3 [⟨S8x4096x3x1, (broadcastInDim S8x4096x3x1 ![0, 1, 2] bcast_S8x4096x3_S8x4096x3x1_0_1_2 (broadcastInDim S8x4096x3 ![0, 1, 2] bcast_S8x1x1_S8x4096x3_0_1_2 (select (cmpi .slt (res_main_v30 V) (broadcastInDim S8x1x1 ![] bcast_S_S8x1x1 (constantI S_ 32 0#32))) (addi (res_main_v30 V) (broadcastInDim S8x1x1 ![] bcast_S_S8x1x1 (constantI S_ 32 8#32))) (res_main_v30 V))))⟩, ⟨S8x4096x3x1, (broadcastInDim S8x4096x3x1 ![0, 1, 2] bcast_S8x4096x3_S8x4096x3x1_0_1_2 (select (cmpi .slt (res_main_v20 V) (broadcastInDim S8x4096x3 ![] bcast_S_S8x4096x3 (constantI S_ 32 0#32))) (addi (res_main_v20 V) (broadcastInDim S8x4096x3 ![] bcast_S_S8x4096x3 (constantI S_ 32 1024#32))) (res_main_v20 V)))⟩] concatenates_S8x4096x3x1_S8x4096x3x1_S8x4096x3x2_d3

variable (hV : Holds V D)
include hV

/-- The first word is the batch. -/
theorem places_batch (b : Fin 8) (n : Fin 4096) (k : Fin 3) : places V (ix4 b n k 0) = BitVec.ofNat 32 b.val := by
  unfold places res_main_v30
  pointwise
  exact if_neg (word_not_neg b.val (by omega))

/-- The second is the neighbour's place. -/
theorem places_row (b : Fin 8) (n : Fin 4096) (k : Fin 3) : places V (ix4 b n k 1) = BitVec.ofNat 32 (ranked D b n k).val := by
  unfold places
  pointwise
  rw [v20_at V D hV]
  exact if_neg (word_not_neg _ (ranked D b n k).isLt)

/-- So the gather reads the neighbours' features. -/
theorem features_at (b : Fin 8) (n : Fin 4096) (k : Fin 3) (m : Fin 256) :
    Host.gather gather_S8x1024x256_S8x4096x3x2_S8x4096x3x256_3_01_n_n_01_3_11256
      (transpose S8x1024x256 [0, 2, 1] (V (Proc.devRef .tc main_arg2)) transposes_S8x256x1024_S8x1024x256_0_2_1) (places V) (ix4 b n k m)
      = (D.f2 b m (ranked D b n k) : EReal) := by
  refine (gathered _ _ b n k m b (ranked D b n k) (places_batch V D hV b n k) (places_row V D hV b n k)).trans ?_
  pointwise
  exact hV.f2 _ _ _

/-- The reference's first layer before its normalisation: the first layer's sums plus the layer's constant. -/
theorem v57_at (b : Fin 8) (o : Fin 256) (n : Fin 4096) :
    (res_main_v57 V (ix3 b o n) : EReal) = ((D.pre1 (ranked D) o b n + D.b1 o : ℝ) : EReal) := by
  have e := features_at V D hV b n
  unfold places at e
  unfold res_main_v57
  pointwise
  simp only [e, v24_at V D hV, hV.f1, hV.w1, hV.b1]
  simp only [share_at D (ranked D) b n]
  simp only [← EReal.coe_mul, ← coe_sum, ← EReal.coe_add]
  unfold Data.pre1 Data.interp
  simp only [mul_comm]

end Cert.ReferenceIdeal.Own

end
-- ==== Proof.RI_Lay.lean ====
module
public import proofs.«01_k».proof.Proof.RI_Pre1
public import proofs.«01_k».proof.Proof.A_Sum
public import Idealize.ShloMosaic.Lib.Pipeline.ValueKit.Geometry
@[expose] public section
set_option maxRecDepth 16384
noncomputable section
namespace Cert.ReferenceIdeal.Own
open Cert.ReferenceIdeal.Gen Cert.ReferenceIdeal.Value
open Idealize.ShloMosaic Idealize.ShloMosaic.TcCoe Knn
variable [Cert.ReferenceIdeal.Facts]
/-- Summing a channel of real numbers from zero gives its total. -/
theorem ends_real {m : Nat} (h : (⟨3, ![8, m, 4096]⟩ : Shape).ReducesTo [0, 2] ⟨1, ![m]⟩) (v : (⟨3, ![8, m, 4096]⟩ : Shape).Idx → EReal)
    (o : Fin m) (x : Fin 8 → Fin 4096 → ℝ) (hv : ∀ b n, v (ix3 b o n) = (x b n : EReal)) :
    Ideal.hostReduceAdd h v 0 (ix1 o) = (total x : EReal) := by
  rw [sum_ends, zero_add]
  simp only [hv, ← coe_sum]
  rfl

variable (V : Valuation τ sig (Elt Ideal)) (D : Data) (hV : Holds V D)
include hV

/-- The mean of a channel of the first layer. -/
theorem v61_at (o : Fin 256) :
    (res_main_v61 V (ix3 0 o 0) : EReal) = (mean (fun b n => D.pre1 (ranked D) o b n + D.b1 o) : EReal) := by
  unfold res_main_v61
  pointwise
  rw [ends_real reducesTo_S8x256x4096_S256_d0_2 (res_main_v57 V) o _ (fun b n => v57_at V D hV b o n)]
  exact div_count _

/-- A value of the first layer less its channel's mean. -/
theorem v63_at (b : Fin 8) (o : Fin 256) (n : Fin 4096) :
    (res_main_v63 V (ix3 b o n) : EReal)
      = ((D.pre1 (ranked D) o b n + D.b1 o - mean (fun b n => D.pre1 (ranked D) o b n + D.b1 o) : ℝ) : EReal) := by
  unfold res_main_v63
  pointwise
  exact (congrArg₂ (fun x y : EReal => x - y) (v57_at V D hV b o n) (v61_at V D hV o)).trans (EReal.coe_sub _ _).symm

/-- The squares of a first-layer channel's differences from its mean add up to this. -/
theorem squares1 (o : Fin 256) :
    Ideal.hostReduceAdd reducesTo_S8x256x4096_S256_d0_2 (mulf (res_main_v63 V) (res_main_v63 V)) 0 (ix1 o)
      = (total (fun b n => (D.pre1 (ranked D) o b n + D.b1 o - mean (fun b n => D.pre1 (ranked D) o b n + D.b1 o))
          * (D.pre1 (ranked D) o b n + D.b1 o - mean (fun b n => D.pre1 (ranked D) o b n + D.b1 o))) : EReal) := by
  refine ends_real reducesTo_S8x256x4096_S256_d0_2 _ o _ (fun b n => ?_)
  pointwise
  exact (congrArg₂ (fun x y : EReal => x * y) (v63_at V D hV b o n) (v63_at V D hV b o n)).trans (EReal.coe_mul _ _).symm

/-- The reference's second layer before its normalisation: the second layer's sums plus that layer's constant. -/
theorem v87_at (b : Fin 8) (q : Fin 128) (n : Fin 4096) :
    (res_main_v87 V (ix3 b q n) : EReal) = ((D.pre2 (ranked D) q b n + D.b2 q : ℝ) : EReal) := by
  unfold res_main_v87
  pointwise
  have e : ∀ o : Fin 256, _ = _ := fun o =>
    reference_bn (D.g1 o) (D.be1 o) (fun b n => D.pre1 (ranked D) o b n + D.b1 o) b n (res_main_v61 V (ix3 0 o 0)) _ (v61_at V D hV o)
      (squares1 V D hV o)
  simp only [v57_at V D hV, hV.g1, hV.be1, hV.w2, hV.b2]
  simp only [e, bn_add]
  simp only [← EReal.coe_mul, ← coe_sum, ← EReal.coe_add]
  rfl

/-- The mean of a channel of the second layer. -/
theorem v91_at (q : Fin 128) :
    (res_main_v91 V (ix3 0 q 0) : EReal) = (mean (fun b n => D.pre2 (ranked D) q b n + D.b2 q) : EReal) := by
  unfold res_main_v91
  pointwise
  rw [ends_real reducesTo_S8x128x4096_S128_d0_2 (res_main_v87 V) q _ (fun b n => v87_at V D hV b q n)]
  exact div_count _

/-- A value of the second layer less its channel's mean. -/
theorem v93_at (b : Fin 8) (q : Fin 128) (n : Fin 4096) :
    (res_main_v93 V (ix3 b q n) : EReal)
      = ((D.pre2 (ranked D) q b n + D.b2 q - mean (fun b n => D.pre2 (ranked D) q b n + D.b2 q) : ℝ) : EReal) := by
  unfold res_main_v93
  pointwise
  exact (congrArg₂ (fun x y : EReal => x - y) (v87_at V D hV b q n) (v91_at V D hV q)).trans (EReal.coe_sub _ _).symm

/-- The squares of a second-layer channel's differences from its mean add up to this. -/
theorem squares2 (q : Fin 128) :
    Ideal.hostReduceAdd reducesTo_S8x128x4096_S128_d0_2 (mulf (res_main_v93 V) (res_main_v93 V)) 0 (ix1 q)
      = (total (fun b n => (D.pre2 (ranked D) q b n + D.b2 q - mean (fun b n => D.pre2 (ranked D) q b n + D.b2 q))
          * (D.pre2 (ranked D) q b n + D.b2 q - mean (fun b n => D.pre2 (ranked D) q b n + D.b2 q))) : EReal) := by
  refine ends_real reducesTo_S8x128x4096_S128_d0_2 _ q _ (fun b n => ?_)
  pointwise
  exact (congrArg₂ (fun x y : EReal => x * y) (v93_at V D hV b q n) (v93_at V D hV b q n)).trans (EReal.coe_mul _ _).symm

/-- The reference's result at an index is the second layer. -/
theorem out_at (b : Fin 8) (q : Fin 128) (n : Fin 4096) :
    (((maximumf (addf (mulf (Host.divf (subf (res_main_v87 V) (broadcastInDim S8x128x4096 ![0, 1, 2] bcast_S1x128x1_S8x128x4096_0_1_2 (res_main_v91 V))) (broadcastInDim S8x128x4096 ![0, 1, 2] bcast_S1x128x1_S8x128x4096_0_1_2 (Host.sqrt (addf (Host.divf (broadcastInDim S1x128x1 ![1] bcast_S128_S1x128x1_1 (Host.reduceAdd (mulf (res_main_v93 V) (res_main_v93 V)) (constant S_ .f32 0x00000000#32) reducesTo_S8x128x4096_S128_d0_2 h_S_)) (broadcastInDim S1x128x1 ![] bcast_S_S1x128x1 (constant S_ .f32 0x47000000#32))) (broadcastInDim S1x128x1 ![] bcast_S_S1x128x1 (constant S_ .f32 0x3727C5AC#32)))))) (broadcastInDim S8x128x4096 ![0, 1, 2] bcast_S1x128x1_S8x128x4096_0_1_2 (broadcastInDim S1x128x1 ![1] bcast_S128_S1x128x1_1 (V (Proc.devRef .tc main_arg10))))) (broadcastInDim S8x128x4096 ![0, 1, 2] bcast_S1x128x1_S8x128x4096_0_1_2 (broadcastInDim S1x128x1 ![1] bcast_S128_S1x128x1_1 (V (Proc.devRef .tc main_arg11))))) (broadcastInDim S8x128x4096 ![] bcast_S_S8x128x4096 (constant S_ .f32 0x00000000#32)) : (Proc.devRef .tc main_v112 : DevRef τ sig).ty.Contents (Elt Ideal)) (ix3 b q n)) : EReal) = (D.lay2 (ranked D) q b n : EReal) := by
  pointwise
  have e := reference_bn (D.g2 q) (D.be2 q) (fun b n => D.pre2 (ranked D) q b n + D.b2 q) b n (res_main_v91 V (ix3 0 q 0)) _ (v91_at V D hV q)
      (squares2 V D hV q)
  simp only [v87_at V D hV, hV.g2, hV.be2]
  simp only [e, bn_add]
  rfl

/-- The reference's result as an array. -/
theorem out : (maximumf (addf (mulf (Host.divf (subf (res_main_v87 V) (broadcastInDim S8x128x4096 ![0, 1, 2] bcast_S1x128x1_S8x128x4096_0_1_2 (res_main_v91 V))) (broadcastInDim S8x128x4096 ![0, 1, 2] bcast_S1x128x1_S8x128x4096_0_1_2 (Host.sqrt (addf (Host.divf (broadcastInDim S1x128x1 ![1] bcast_S128_S1x128x1_1 (Host.reduceAdd (mulf (res_main_v93 V) (res_main_v93 V)) (constant S_ .f32 0x00000000#32) reducesTo_S8x128x4096_S128_d0_2 h_S_)) (broadcastInDim S1x128x1 ![] bcast_S_S1x128x1 (constant S_ .f32 0x47000000#32))) (broadcastInDim S1x128x1 ![] bcast_S_S1x128x1 (constant S_ .f32 0x3727C5AC#32)))))) (broadcastInDim S8x128x4096 ![0, 1, 2] bcast_S1x128x1_S8x128x4096_0_1_2 (broadcastInDim S1x128x1 ![1] bcast_S128_S1x128x1_1 (V (Proc.devRef .tc main_arg10))))) (broadcastInDim S8x128x4096 ![0, 1, 2] bcast_S1x128x1_S8x128x4096_0_1_2 (broadcastInDim S1x128x1 ![1] bcast_S128_S1x128x1_1 (V (Proc.devRef .tc main_arg11))))) (broadcastInDim S8x128x4096 ![] bcast_S_S8x128x4096 (constant S_ .f32 0x00000000#32)) : (Proc.devRef .tc main_v112 : DevRef τ sig).ty.Contents (Elt Ideal))
    = fun i => (D.lay2 (ranked D) (i 1) (i 0) (i 2) : EReal) := by
  funext i
  obtain ⟨b, q, n, rfl⟩ : ∃ (b : Fin 8) (q : Fin 128) (n : Fin 4096), i = ix3 b q n := ⟨i 0, i 1, i 2, by blk_ext⟩
  exact out_at V D hV b q n

end Cert.ReferenceIdeal.Own

end
-- ==== Proof.Pre_Read.lean ====
module
public import proofs.«01_k».proof.Proof.A_Model
public import proofs.«01_k».proof.Proof.A_Sort
public import proofs.«01_k».proof.Proof.A_Norm
public import proofs.«01_k».proof.Pre_finite_and_third_nearest_apart
public import Idealize.ShloMosaic.Lib.ReduceAll
public import Idealize.ShloMosaic.Lib.Pointwise
@[expose] public section
set_option maxRecDepth 16384
noncomputable section
namespace Cert.Pre_finite_and_third_nearest_apart.Own
open Idealize.ShloMosaic Idealize.ShloMosaic.TcCoe Knn Cert.Pre_finite_and_third_nearest_apart
open Cert.Pre_finite_and_third_nearest_apart.Facts

/-- The largest single-precision word is infinity. -/
theorem top_word : Ideal.ofBits .f32 0x7F800000#32 = ⊤ := by
  simp [Ideal.ofBits, Ideal.ieee]

/-- The bit of a decided statement is set exactly where it holds. -/
theorem bit_of (p : Prop) [Decidable p] : BitVec.ofBool (decide p) = 1#1 ↔ p := by
  by_cases h : p <;> simp [h]

/-- An array all of whose entries compare below infinity in size holds real numbers. -/
theorem all_real {s : Shape} {axes : List (Fin s.rank)} (x : FVec Ideal s .f32) (hb : S_.BroadcastsInDim s (![] : Fin 0 → Fin s.rank))
    (h : s.ReducesTo axes S_) (hu : 0 < S_.numel) (j : S_.Idx)
    (e : Host.reduce IntOp.andi (cmpf .olt (Host.absf x) (broadcastInDim s ![] hb (constant S_ .f32 0x7F800000#32))) (constantI S_ 1 1#1) h hu j = 1#1)
    (i : s.Idx) : x i = ((x i).toReal : EReal) := by
  have : Subsingleton S_.Idx := ⟨fun a b => funext fun k => k.elim0⟩
  have g := Host.reduce_andi_all _ _ h hu j e i
  have g2 : BitVec.ofBool (decide (max (x i) (-(x i)) < Ideal.ofBits .f32 0x7F800000#32)) = 1#1 := g
  rw [bit_of, top_word] at g2
  revert g2
  induction x i using EReal.rec with
  | bot => intro g2; simp at g2
  | top => intro g2; simp at g2
  | coe r => intro _; rfl

/-- The sort's comparison puts real numbers in their order. -/
theorem cmp_real (a b : ℝ) (x y : BitVec 32) : comparator_f32_i32_d2 (F := Ideal) ((a : EReal), x) ((b : EReal), y) = 1#1 ↔ a < b := by
  unfold comparator_f32_i32_d2
  simp only [Scalar.select, FloatOps.cmpfTotal, FloatOps.cmpf, Ideal.cmpTotal, Ideal.cmp, CmpDirection.ordered]
  by_cases ha : a = 0 <;> by_cases hb : b = 0 <;> simp [ha, hb, bit_of]

/-- Two answers joined by "and" are both yes. -/
theorem both (x y : IVec S_ 1) (h : andi x y ix0 = 1#1) : x ix0 = 1#1 ∧ y ix0 = 1#1 := IntOp.andi_eq_one.1 h

section
variable [Facts]
variable (a0 : FVec Ideal S8x128x4096 .f32) (a1 : FVec Ideal S8x3x4096 .f32) (a2 : FVec Ideal S8x256x1024 .f32) (a3 : FVec Ideal S8x3x1024 .f32)
  (a4 : FVec Ideal S256x384 .f32) (a5 a6 a7 : FVec Ideal S256 .f32) (a8 : FVec Ideal S128x256 .f32) (a9 a10 a11 : FVec Ideal S128 .f32)

/-- The real arrays an argument list names. -/
def data : Data where
  f1 b i n := (a0 (ix3 b i n)).toReal
  c1 b a n := (a1 (ix3 b a n)).toReal
  f2 b k j := (a2 (ix3 b k j)).toReal
  c2 b a j := (a3 (ix3 b a j)).toReal
  w1 o i := (a4 (ix2 o i)).toReal
  b1 o := (a5 (ix1 o)).toReal
  g1 o := (a6 (ix1 o)).toReal
  be1 o := (a7 (ix1 o)).toReal
  w2 q o := (a8 (ix2 q o)).toReal
  b2 q := (a9 (ix1 q)).toReal
  g2 q := (a10 (ix1 q)).toReal
  be2 q := (a11 (ix1 q)).toReal

/-- What the precondition says of its arguments: real numbers everywhere, and of every query point that its fourth distance in order
    is larger than its third. -/
structure Says : Prop where
  r0 : ∀ i, a0 i = ((a0 i).toReal : EReal)
  r1 : ∀ i, a1 i = ((a1 i).toReal : EReal)
  r2 : ∀ i, a2 i = ((a2 i).toReal : EReal)
  r3 : ∀ i, a3 i = ((a3 i).toReal : EReal)
  r4 : ∀ i, a4 i = ((a4 i).toReal : EReal)
  r5 : ∀ i, a5 i = ((a5 i).toReal : EReal)
  r6 : ∀ i, a6 i = ((a6 i).toReal : EReal)
  r7 : ∀ i, a7 i = ((a7 i).toReal : EReal)
  r8 : ∀ i, a8 i = ((a8 i).toReal : EReal)
  r9 : ∀ i, a9 i = ((a9 i).toReal : EReal)
  r10 : ∀ i, a10 i = ((a10 i).toReal : EReal)
  r11 : ∀ i, a11 i = ((a11 i).toReal : EReal)
  gap : ∀ b n, (data a0 a1 a2 a3 a4 a5 a6 a7 a8 a9 a10 a11).dd b n (order ((data a0 a1 a2 a3 a4 a5 a6 a7 a8 a9 a10 a11).dd b n) 2)
    < (data a0 a1 a2 a3 a4 a5 a6 a7 a8 a9 a10 a11).dd b n (order ((data a0 a1 a2 a3 a4 a5 a6 a7 a8 a9 a10 a11).dd b n) 3)

omit [Facts] in
/-- Two places of the sorted distances compared, for an array that holds real distances. -/
theorem gap_of (D : Data) (X : FVec Ideal S8x4096x1024 .f32) (Y : IVec S8x4096x1024 32) (hX : ∀ b n j, X (ix3 b n j) = (D.dd b n j : EReal))
    (b : Fin 8) (n : Fin 4096)
    (l : (Host.sort2 S8x4096x1024 2 (comparator_f32_i32_d2 (F := Ideal)) X Y).1 (ix3 b n (2 : Fin 1024))
      < (Host.sort2 S8x4096x1024 2 (comparator_f32_i32_d2 (F := Ideal)) X Y).1 (ix3 b n (3 : Fin 1024))) :
    D.dd b n (order (D.dd b n) 2) < D.dd b n (order (D.dd b n) 3) := by
  have f := fun k => sort_fst (comparator_f32_i32_d2 (F := Ideal)) cmp_real X Y (fun b n j => D.dd b n j) hX b n k
  have f2 := f 2
  have f3 := f 3
  exact EReal.coe_lt_coe_iff.1 (lt_of_eq_of_lt f2.symm (lt_of_lt_of_eq l f3))

/-- The precondition says so. -/
theorem reads (h : fn (F := Ideal) a0 a1 a2 a3 a4 a5 a6 a7 a8 a9 a10 a11 = fun _ => 1#1) : Says a0 a1 a2 a3 a4 a5 a6 a7 a8 a9 a10 a11 := by
  have e := congrFun h ix0
  simp only [fn, fn_part1, fn_part2, fn_part3, fn_part4] at e
  obtain ⟨e, e12⟩ := both _ _ e
  obtain ⟨e, e11⟩ := both _ _ e
  obtain ⟨e, e10⟩ := both _ _ e
  obtain ⟨e, e9⟩ := both _ _ e
  obtain ⟨e, e8⟩ := both _ _ e
  obtain ⟨e, e7⟩ := both _ _ e
  obtain ⟨e, e6⟩ := both _ _ e
  obtain ⟨e, e5⟩ := both _ _ e
  obtain ⟨e, e4⟩ := both _ _ e
  obtain ⟨e, e3⟩ := both _ _ e
  obtain ⟨e, e2⟩ := both _ _ e
  obtain ⟨e, e1⟩ := both _ _ e
  obtain ⟨e, e0⟩ := both _ _ e
  have r1 := all_real a1 _ _ _ _ e1
  have r3 := all_real a3 _ _ _ _ e3
  refine ⟨all_real a0 _ _ _ _ e0, r1, all_real a2 _ _ _ _ e2, r3, all_real a4 _ _ _ _ e4, all_real a5 _ _ _ _ e5, all_real a6 _ _ _ _ e6,
    all_real a7 _ _ _ _ e7, all_real a8 _ _ _ _ e8, all_real a9 _ _ _ _ e9, all_real a10 _ _ _ _ e10, all_real a11 _ _ _ _ e11, fun b n => ?_⟩
  have : Subsingleton S_.Idx := ⟨fun a b => funext fun k => k.elim0⟩
  have g := Host.reduce_andi_all _ _ _ _ _ e12 (ix2 b n)
  clear * - g r1 r3
  pointwise at g
  refine gap_of _ _ _ (fun b n j => ?_) b n ((bit_of _).1 g)
  pointwise
  rw [neg_two_word]
  unfold data Data.dd
  generalize hu : (fun b a n => (a1 (ix3 b a n)).toReal) = u
  generalize hw : (fun b a n => (a3 (ix3 b a n)).toReal) = w
  have cu : ∀ b a n, a1 (ix3 b a n) = ((u b a n : ℝ) : EReal) := fun b a n => hu ▸ r1 _
  have cw : ∀ b a n, a3 (ix3 b a n) = ((w b a n : ℝ) : EReal) := fun b a n => hw ▸ r3 _
  simp only [cu, cw]
  simp only [← EReal.coe_mul, ← coe_sum, ← EReal.coe_add]
  congr 1
  simp only [Fin.sum_univ_three]
  ring

end
end Cert.Pre_finite_and_third_nearest_apart.Own

end
-- ==== Proof.Join.lean ====
module
public import proofs.«01_k».proof.Proof.KI_Val
public import proofs.«01_k».proof.Proof.KI_Run
public import proofs.«01_k».proof.Proof.RI_Lay
public import proofs.«01_k».proof.Proof.Pre_Read
public import proofs.«01_k».proof.Defs
public import proofs.«01_k».proof.Proof.Gen.KernelIdeal
public import proofs.«01_k».proof.Proof.Gen.ReferenceIdeal
public import proofs.«01_k».proof.Proof.Gen.Pre_finite_and_third_nearest_apart
@[expose] public section
set_option maxRecDepth 16384
noncomputable section
namespace Cert.Join
open Idealize.ShloMosaic Idealize.ShloMosaic.StableHlo Idealize.SL.Sem Knn
open Cert.ReferenceIdeal.Own (ranked)

/-- Where the fourth distance in order is larger than the third, the three first in order are the three nearest. -/
theorem near (D : Data) (gap : ∀ b n, D.dd b n (order (D.dd b n) 2) < D.dd b n (order (D.dd b n) 3)) : Near D (ranked D) where
  ne01 b n e := absurd (order_injective _ e) (by decide)
  ne02 b n e := absurd (order_injective _ e) (by decide)
  ne12 b n e := absurd (order_injective _ e) (by decide)
  le01 b n := order_le (D.dd b n) _ _ (by decide)
  le12 b n := order_le (D.dd b n) _ _ (by decide)
  rest b n j h0 h1 h2 := by
    obtain ⟨p, rfl⟩ := order_surjective (D.dd b n) j
    have q0 : p.val ≠ 0 := fun e => h0 (congrArg (order (D.dd b n)) (Fin.ext e))
    have q1 : p.val ≠ 1 := fun e => h1 (congrArg (order (D.dd b n)) (Fin.ext e))
    have q2 : p.val ≠ 2 := fun e => h2 (congrArg (order (D.dd b n)) (Fin.ext e))
    have q3 : (3 : Fin 1024) ≤ p := by
      show 3 ≤ p.val
      omega
    exact lt_of_lt_of_le (gap b n) (order_le (D.dd b n) 3 p q3)

section
variable [Cert.KernelIdeal.Facts] [Cert.ReferenceIdeal.Facts] [Cert.Pre_finite_and_third_nearest_apart.Facts]

/-- The real arrays in a core's arguments. -/
def arrays (m : (ℓ : Loc Cert.KernelIdeal.nD Cert.KernelIdeal.τ Cert.KernelIdeal.sig) → Buf (Elt Ideal) ℓ) (c : Dev Cert.KernelIdeal.nD) : Data :=
  Cert.Pre_finite_and_third_nearest_apart.Own.data
    (m ((c.tc : Thread Cert.KernelIdeal.nD Cert.KernelIdeal.τ).loc Cert.KernelIdeal.main_arg0))
    (m ((c.tc : Thread Cert.KernelIdeal.nD Cert.KernelIdeal.τ).loc Cert.KernelIdeal.main_arg1))
    (m ((c.tc : Thread Cert.KernelIdeal.nD Cert.KernelIdeal.τ).loc Cert.KernelIdeal.main_arg2))
    (m ((c.tc : Thread Cert.KernelIdeal.nD Cert.KernelIdeal.τ).loc Cert.KernelIdeal.main_arg3))
    (m ((c.tc : Thread Cert.KernelIdeal.nD Cert.KernelIdeal.τ).loc Cert.KernelIdeal.main_arg4))
    (m ((c.tc : Thread Cert.KernelIdeal.nD Cert.KernelIdeal.τ).loc Cert.KernelIdeal.main_arg5))
    (m ((c.tc : Thread Cert.KernelIdeal.nD Cert.KernelIdeal.τ).loc Cert.KernelIdeal.main_arg6))
    (m ((c.tc : Thread Cert.KernelIdeal.nD Cert.KernelIdeal.τ).loc Cert.KernelIdeal.main_arg7))
    (m ((c.tc : Thread Cert.KernelIdeal.nD Cert.KernelIdeal.τ).loc Cert.KernelIdeal.main_arg8))
    (m ((c.tc : Thread Cert.KernelIdeal.nD Cert.KernelIdeal.τ).loc Cert.KernelIdeal.main_arg9))
    (m ((c.tc : Thread Cert.KernelIdeal.nD Cert.KernelIdeal.τ).loc Cert.KernelIdeal.main_arg10))
    (m ((c.tc : Thread Cert.KernelIdeal.nD Cert.KernelIdeal.τ).loc Cert.KernelIdeal.main_arg11))

/-- The kernel and the reference end with the same result, the second layer of the real arrays. -/
theorem algebraic : Cert.algebraic_KernelIdeal_ReferenceIdeal_pre_finite_and_third_nearest_apart := by
  intro m g m' g' hpre hargs
  have ht := fun c => Cert.Pre_finite_and_third_nearest_apart.Own.reads _ _ _ _ _ _ _ _ _ _ _ _ (hpre c)
  have hn : ∀ c, Near (arrays m c) (ranked (arrays m c)) := fun c => near _ (ht c).gap
  have hk : ∀ c, Cert.KernelIdeal.Own.Reads m c (arrays m c) := fun c => by
    have hp := ht c
    exact {
    f1 := fun x y z => hp.r0 (ix3 x y z),
    c1 := fun x y z => hp.r1 (ix3 x y z),
    f2 := fun x y z => hp.r2 (ix3 x y z),
    c2 := fun x y z => hp.r3 (ix3 x y z),
    w1 := fun x y => hp.r4 (ix2 x y),
    b1 := fun x => hp.r5 (ix1 x),
    g1 := fun x => hp.r6 (ix1 x),
    be1 := fun x => hp.r7 (ix1 x),
    w2 := fun x y => hp.r8 (ix2 x y),
    b2 := fun x => hp.r9 (ix1 x),
    g2 := fun x => hp.r10 (ix1 x),
    be2 := fun x => hp.r11 (ix1 x) }
  have hr : ∀ c, Cert.ReferenceIdeal.Own.Holds (launchContents m' c) (arrays m c) := fun c => by
    have hp := ht c
    have he := hargs c
    exact {
    f1 := fun x y z => (congrFun he.1 (ix3 x y z)).trans (hp.r0 (ix3 x y z)),
    c1 := fun x y z => (congrFun he.2.1 (ix3 x y z)).trans (hp.r1 (ix3 x y z)),
    f2 := fun x y z => (congrFun he.2.2.1 (ix3 x y z)).trans (hp.r2 (ix3 x y z)),
    c2 := fun x y z => (congrFun he.2.2.2.1 (ix3 x y z)).trans (hp.r3 (ix3 x y z)),
    w1 := fun x y => (congrFun he.2.2.2.2.1 (ix2 x y)).trans (hp.r4 (ix2 x y)),
    b1 := fun x => (congrFun he.2.2.2.2.2.1 (ix1 x)).trans (hp.r5 (ix1 x)),
    g1 := fun x => (congrFun he.2.2.2.2.2.2.1 (ix1 x)).trans (hp.r6 (ix1 x)),
    be1 := fun x => (congrFun he.2.2.2.2.2.2.2.1 (ix1 x)).trans (hp.r7 (ix1 x)),
    w2 := fun x y => (congrFun he.2.2.2.2.2.2.2.2.1 (ix2 x y)).trans (hp.r8 (ix2 x y)),
    b2 := fun x => (congrFun he.2.2.2.2.2.2.2.2.2.1 (ix1 x)).trans (hp.r9 (ix1 x)),
    g2 := fun x => (congrFun he.2.2.2.2.2.2.2.2.2.2.1 (ix1 x)).trans (hp.r10 (ix1 x)),
    be2 := fun x => (congrFun he.2.2.2.2.2.2.2.2.2.2.2 (ix1 x)).trans (hp.r11 (ix1 x)) }
  refine ⟨fun c => fun i => ((arrays m c).lay2 (ranked (arrays m c)) (i 1) (i 0) (i 2) : EReal), ?_, ?_⟩
  · exact (θ_run Cert.KernelIdeal.defs _ _).mono
      (fun _ h c => ⟨(h.1 c).1.trans (Cert.KernelIdeal.Own.result m g c (arrays m c) (hk c) (ranked (arrays m c)) (hn c)), (h.1 c).2⟩)
      (Cert.KernelIdeal.Own.run m g)
  · exact (θ_run Cert.ReferenceIdeal.defs _ _).mono
      (fun _ h c => ⟨(h c).1.trans (Cert.ReferenceIdeal.Own.out (launchContents m' c) (arrays m c) (hr c)), (h c).2⟩)
      (Cert.ReferenceIdeal.Value.run m' g')

end
end Cert.Join

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Regions
public import proofs.«01_k».proof.Proof.Gen.Kernel.Points
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Regions
public import proofs.«01_k».proof.Proof.Gen.KernelIdeal.Points
public import proofs.«01_k».proof.Proof.Gen.ReferenceIdeal
public import proofs.«01_k».proof.Proof.Gen.Pre_finite_and_third_nearest_apart
public import proofs.«01_k».proof.Proof.Gen.ReferenceIdeal.Run
public import proofs.«01_k».proof.Proof.KI_Run
public import proofs.«01_k».proof.Proof.K_Run
public import proofs.«01_k».proof.Proof.R_Frame
public import proofs.«01_k».proof.Proof.Join
public import Idealize.ShloMosaic.Adequacy
public import Idealize.ShloMosaic.Init

@[expose] public section

noncomputable section

namespace Cert.Proof

open Idealize.ShloMosaic Idealize.SL.Sem Cert.Kernel

/-- Frames of the three programs, the ledger entry of the named constant, and the equality of the results. -/
theorem claim : Cert.Claim :=
  ⟨Cert.Kernel.Gen.facts, Cert.KernelIdeal.Gen.facts, Cert.ReferenceIdeal.Gen.facts, Cert.Pre_finite_and_third_nearest_apart.Gen.facts,
    fun m ρ _ => Cert.Kernel.Own.frame m ρ,
    fun m ρ _ => Cert.KernelIdeal.Own.frame m ρ,
    fun m ρ _ => Cert.KernelIdeal.Own.frame m ρ,
    fun m ρ _ => Cert.ReferenceIdeal.Own.frame m ρ,
    fun m ρ _ => Cert.ReferenceIdeal.Own.frame m ρ,
    IdealRules.named_const.statement Cert.KernelIdeal.κ "mask" .f32 0x7149F2CA#32 ⊤ rfl,
    Cert.Join.algebraic⟩

end Cert.Proof

end
